-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_memory [hPre_finite_memory : Cert.Pre_finite_memory.Facts] (m : (ℓ : Loc Cert.KernelIdeal.nD Cert.KernelIdeal.τ Cert.KernelIdeal.sig) → Buf (Elt Ideal) ℓ) : Prop :=
  ∀ c : Dev Cert.KernelIdeal.nD,
    (Cert.Pre_finite_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_memory [hPre_finite_memory : Cert.Pre_finite_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_memory [hKernelIdeal : Cert.KernelIdeal.Facts] [hPre_finite_memory : Cert.Pre_finite_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_memory [hReferenceIdeal : Cert.ReferenceIdeal.Facts] [hPre_finite_memory : Cert.Pre_finite_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_memory [hKernelIdeal : Cert.KernelIdeal.Facts] [hReferenceIdeal : Cert.ReferenceIdeal.Facts] [hPre_finite_memory : Cert.Pre_finite_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_memory : Cert.Pre_finite_memory.Facts),
    quiescent_Kernel (hKernel := hKernel)
    ∧ quiescent_KernelIdeal (hKernelIdeal := hKernelIdeal)
    ∧ quiescent_KernelIdeal_pre_finite_memory (hKernelIdeal := hKernelIdeal) (hPre_finite_memory := hPre_finite_memory)
    ∧ quiescent_ReferenceIdeal (hReferenceIdeal := hReferenceIdeal)
    ∧ quiescent_ReferenceIdeal_pre_finite_memory (hReferenceIdeal := hReferenceIdeal) (hPre_finite_memory := hPre_finite_memory)
    ∧ preserves_Kernel_KernelIdeal
    ∧ algebraic_KernelIdeal_ReferenceIdeal_pre_finite_memory (hKernelIdeal := hKernelIdeal) (hReferenceIdeal := hReferenceIdeal) (hPre_finite_memory := hPre_finite_memory)
-- ==== Pre_finite_memory.lean ====
abbrev S4x4096x1024 : Shape := ⟨3, ![4, 4096, 1024]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S_ : Shape := ⟨0, ![]⟩

class Facts : Prop where
  bcast_S_S4x4096x1024 : S_.BroadcastsInDim S4x4096x1024 (![] : Fin 0 → Fin S4x4096x1024.rank)
  bcast_S_S1024x1024 : S_.BroadcastsInDim S1024x1024 (![] : Fin 0 → Fin S1024x1024.rank)
  bcast_S_S2048x1024 : S_.BroadcastsInDim S2048x1024 (![] : Fin 0 → Fin S2048x1024.rank)
  bcast_S_S1024x2048 : S_.BroadcastsInDim S1024x2048 (![] : Fin 0 → Fin S1024x2048.rank)

variable [Facts]

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S2048x1024 .f32) (main_arg12 : FVec F S1024x2048 .f32) (main_arg13 : FVec F S2048x1024 .f32) (main_arg14 : FVec F S1024x2048 .f32) : IVec S4x4096x1024 1 × IVec S1024x1024 1 × IVec S1024x1024 1 × IVec S2048x1024 1 × IVec S1024x2048 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S2048x1024 .f32 := Host.absf main_arg11
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024x2048 .f32 := Host.absf main_arg12
  let main_cst_3 : FVec F S_ .f32 := constant S_ .f32 0x7F800000#32
  let main_v13 : FVec F S1024x2048 .f32 := broadcastInDim S1024x2048 ![] bcast_S_S1024x2048 main_cst_3
  let main_v14 : IVec S1024x2048 1 := cmpf .olt main_v12 main_v13
  (main_v2, main_v5, main_v8, main_v11, main_v14)
-- ==== Kernel.lean ====
abbrev S4x4096x1024 : Shape := ⟨3, ![4, 4096, 1024]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S16384x1024 : Shape := ⟨2, ![16384, 1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S_ : Shape := ⟨0, ![]⟩
abbrev S2x8x3072 : Shape := ⟨3, ![2, 8, 3072]⟩
abbrev S2x2048x1024 : Shape := ⟨3, ![2, 2048, 1024]⟩
abbrev S2x1024x2048 : Shape := ⟨3, ![2, 1024, 2048]⟩
abbrev S512x1024 : Shape := ⟨2, ![512, 1024]⟩
abbrev S1x8x3072 : Shape := ⟨3, ![1, 8, 3072]⟩
abbrev S512x2048 : Shape := ⟨2, ![512, 2048]⟩
abbrev S5 : Shape := ⟨1, ![5]⟩
abbrev S1 : Shape := ⟨1, ![1]⟩
abbrev S256x1024 : Shape := ⟨2, ![256, 1024]⟩
abbrev S256x3072 : Shape := ⟨2, ![256, 3072]⟩
abbrev S8x3072 : Shape := ⟨2, ![8, 3072]⟩
abbrev S32x8x3072 : Shape := ⟨3, ![32, 8, 3072]⟩
abbrev S256x2048 : Shape := ⟨2, ![256, 2048]⟩
abbrev S1x2048x1024 : Shape := ⟨3, ![1, 2048, 1024]⟩
abbrev S1x1024x2048 : Shape := ⟨3, ![1, 1024, 2048]⟩
abbrev S1x256x1024 : Shape := ⟨3, ![1, 256, 1024]⟩
abbrev S128x2048 : Shape := ⟨2, ![128, 2048]⟩
abbrev S1x128x2048 : Shape := ⟨3, ![1, 128, 2048]⟩
abbrev S2x8x1024 : Shape := ⟨3, ![2, 8, 1024]⟩
abbrev S1x2x8x1024 : Shape := ⟨4, ![1, 2, 8, 1024]⟩
abbrev S1x1x1x1 : Shape := ⟨4, ![1, 1, 1, 1]⟩
abbrev S2 : Shape := ⟨1, ![2]⟩

abbrev nBuf : Space → Nat
  | .hbm => 41
  | .vmem => 45
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x1024, .f32⟩
  | .hbm, ⟨12, _⟩ => ⟨S1024x2048, .f32⟩
  | .hbm, ⟨13, _⟩ => ⟨S2048x1024, .f32⟩
  | .hbm, ⟨14, _⟩ => ⟨S1024x2048, .f32⟩
  | .hbm, ⟨15, _⟩ => ⟨S16384x1024, .f32⟩
  | .hbm, ⟨16, _⟩ => ⟨S3072x1024, .f32⟩
  | .hbm, ⟨17, _⟩ => ⟨S3072x1024, .fp8e4m3⟩
  | .hbm, ⟨18, _⟩ => ⟨S1024x3072, .fp8e4m3⟩
  | .hbm, ⟨19, _⟩ => ⟨S3072, .f32⟩
  | .hbm, ⟨20, _⟩ => ⟨S1x3072, .f32⟩
  | .hbm, ⟨21, _⟩ => ⟨S_, .f32⟩
  | .hbm, ⟨22, _⟩ => ⟨S1x3072, .f32⟩
  | .hbm, ⟨23, _⟩ => ⟨S1x3072, .f32⟩
  | .hbm, ⟨24, _⟩ => ⟨S2048x1024, .f32⟩
  | .hbm, ⟨25, _⟩ => ⟨S2048x1024, .bf16⟩
  | .hbm, ⟨26, _⟩ => ⟨S1024x2048, .bf16⟩
  | .hbm, ⟨27, _⟩ => ⟨S2048x1024, .bf16⟩
  | .hbm, ⟨28, _⟩ => ⟨S1024x2048, .bf16⟩
  | .hbm, ⟨29, _⟩ => ⟨S1024x2048, .bf16⟩
  | .hbm, ⟨30, _⟩ => ⟨S2048x1024, .bf16⟩
  | .hbm, ⟨31, _⟩ => ⟨S1024x2048, .bf16⟩
  | .hbm, ⟨32, _⟩ => ⟨S2x8x3072, .f32⟩
  | .hbm, ⟨33, _⟩ => ⟨S2x2048x1024, .f32⟩
  | .hbm, ⟨34, _⟩ => ⟨S2x1024x2048, .f32⟩
  | .hbm, ⟨35, _⟩ => ⟨S2048x1024, .bf16⟩
  | .hbm, ⟨36, _⟩ => ⟨S1024x2048, .bf16⟩
  | .hbm, ⟨37, _⟩ => ⟨S1024x1024, .bf16⟩
  | .hbm, ⟨38, _⟩ => ⟨S1024x1024, .bf16⟩
  | .hbm, ⟨39, _⟩ => ⟨S16384x1024, .f32⟩
  | .hbm, ⟨40, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1x3072, .f32⟩
  | .local _ .vmem, ⟨3, _⟩ => ⟨S1x8x3072, .f32⟩
  | .local _ .vmem, ⟨4, _⟩ => ⟨S1x8x3072, .f32⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S1024x2048, .bf16⟩
  | .local _ .vmem, ⟨9, _⟩ => ⟨S1024x3072, .fp8e4m3⟩
  | .local _ .vmem, ⟨10, _⟩ => ⟨S512x1024, .bf16⟩
  | .local _ .vmem, ⟨11, _⟩ => ⟨S512x2048, .bf16⟩
  | .local _ .vmem, ⟨12, _⟩ => ⟨S512x1024, .bf16⟩
  | .local _ .vmem, ⟨13, _⟩ => ⟨S512x2048, .bf16⟩
  | .local _ .vmem, ⟨14, _⟩ => ⟨S2048x1024, .f32⟩
  | .local _ .vmem, ⟨15, _⟩ => ⟨S1024x2048, .f32⟩
  | .local _ .vmem, ⟨16, _⟩ => ⟨S2x8x3072, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | .local _ .vmem, ⟨32, _⟩ => ⟨S1x128x2048, .f32⟩
  | .local _ .vmem, ⟨33, _⟩ => ⟨S256x1024, .bf16⟩
  | .local _ .vmem, ⟨34, _⟩ => ⟨S256x1024, .bf16⟩
  | .local _ .vmem, ⟨35, _⟩ => ⟨S128x2048, .bf16⟩
  | .local _ .vmem, ⟨36, _⟩ => ⟨S128x2048, .bf16⟩
  | .local _ .vmem, ⟨37, _⟩ => ⟨S1024x1024, .f32⟩
  | .local _ .vmem, ⟨38, _⟩ => ⟨S1024x1024, .f32⟩
  | .local _ .vmem, ⟨39, _⟩ => ⟨S1024x1024, .bf16⟩
  | .local _ .vmem, ⟨40, _⟩ => ⟨S1024x1024, .bf16⟩
  | .local _ .vmem, ⟨41, _⟩ => ⟨S1024x1024, .f32⟩
  | .local _ .vmem, ⟨42, _⟩ => ⟨S1024x1024, .f32⟩
  | .local _ .vmem, ⟨43, _⟩ => ⟨S2048x1024, .bf16⟩
  | .local _ .vmem, ⟨44, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v17_0 : Ref sig .tc := ⟨.hbm, 35, rfl⟩
abbrev main_v17_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg3_1 : Ref sig .tc := ⟨.vmem, 42, rfl⟩
abbrev cc2_scratch0 : Ref sig .tc := ⟨.vmem, 43, rfl⟩
abbrev cc2_scratch1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem3_0 : DmaSem sig := 35
abbrev cc2_sem3_1 : DmaSem sig := 36

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v149 : BitVec 1 := Scalar.cmpi .eq arg1 c15_i32
  let v150 : BitVec 32 := Scalar.extui v149
  let c0_i32_98 : BitVec 32 := 0#32
  let v151 : BitVec 1 := Scalar.cmpi .ne v150 c0_i32_98
  v151

def k0_off1 (i : grid0.Coords) : Fin 3 → Nat :=
  let arg0 : BitVec 32 := BitVec.ofNat 32 (i 0).val
  let c0_i32_100 : BitVec 32 := 0#32
  let c0_i32_101 : BitVec 32 := 0#32
  ![arg0.toNat, 0, 0]
def k0_off2 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x8x3072 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S1x1x1024 : Shape := ⟨3, ![1, 1, 1024]⟩
abbrev S_ : Shape := ⟨0, ![]⟩
abbrev S4x4096x2048 : Shape := ⟨3, ![4, 4096, 2048]⟩
abbrev S4x4096 : Shape := ⟨2, ![4, 4096]⟩

abbrev nBuf : Space → Nat
  | .hbm => 154
  | .vmem => 0
  | .smem => 0
  | _ => 0

abbrev hbmTy0_0 (i : Nat) : BufTy := match i % 128 with
  | 0 => ⟨S4x4096x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2048x1024, .f32⟩
  | 12 => ⟨S1024x2048, .f32⟩
  | 13 => ⟨S2048x1024, .f32⟩
  | 14 => ⟨S1024x2048, .f32⟩
  | 15 => ⟨S1024x1024, .f32⟩
  | 16 => ⟨S4x4096x1024, .f32⟩
  | 17 => ⟨S1024x1024, .f32⟩
  | 18 => ⟨S4x4096x1024, .f32⟩
  | 19 => ⟨S1024x1024, .f32⟩
  | 20 => ⟨S4x4096x1024, .f32⟩
  | 21 => ⟨S1024x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x1024, .f32⟩
  | 27 => ⟨S4x4096x1024, .f32⟩
  | 28 => ⟨S_, .f32⟩
  | 29 => ⟨S4x4096x1024, .f32⟩
  | 30 => ⟨S4x4096x1024, .f32⟩
  | 31 => ⟨S_, .f32⟩
  | 32 => ⟨S4x4096x1024, .f32⟩
  | 33 => ⟨S4x4096x1024, .f32⟩
  | 34 => ⟨S_, .f32⟩
  | 35 => ⟨S_, .f32⟩
  | 36 => ⟨S_, .f32⟩
  | 37 => ⟨S_, .f32⟩
  | 38 => ⟨S1024x1024, .f32⟩
  | 39 => ⟨S4x4096x1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S_, .f32⟩
  | 52 => ⟨S_, .f32⟩
  | 53 => ⟨S_, .f32⟩
  | 54 => ⟨S_, .f32⟩
  | 55 => ⟨S1024x1024, .f32⟩
  | 56 => ⟨S4x4096x1024, .f32⟩
  | 57 => ⟨S1x1x1024, .f32⟩
  | 58 => ⟨S4x4096x1024, .f32⟩
  | 59 => ⟨S4x4096x1024, .f32⟩
  | 60 => ⟨S4x4096x1024, .f32⟩
  | 61 => ⟨S4x4096x1024, .f32⟩
  | 62 => ⟨S_, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S_, .f32⟩
  | 69 => ⟨S_, .f32⟩
  | 70 => ⟨S_, .f32⟩
  | 71 => ⟨S_, .f32⟩
  | 72 => ⟨S1024x2048, .f32⟩
  | 73 => ⟨S4x4096x2048, .f32⟩
  | 74 => ⟨S4x4096x2048, .f32⟩
  | 75 => ⟨S4x4096x2048, .f32⟩
  | 76 => ⟨S_, .f32⟩
  | 77 => ⟨S4x4096x2048, .f32⟩
  | 78 => ⟨S4x4096x2048, .f32⟩
  | 79 => ⟨S_, .f32⟩
  | 80 => ⟨S4x4096x2048, .f32⟩
  | 81 => ⟨S4x4096x2048, .f32⟩
  | 82 => ⟨S_, .f32⟩
  | 83 => ⟨S4x4096x2048, .f32⟩
  | 84 => ⟨S4x4096x2048, .f32⟩
  | 85 => ⟨S4x4096x2048, .f32⟩
  | 86 => ⟨S4x4096x2048, .f32⟩
  | 87 => ⟨S2048x1024, .f32⟩
  | 88 => ⟨S4x4096x1024, .f32⟩
  | 89 => ⟨S4x4096x1024, .f32⟩
  | 90 => ⟨S4x4096x1024, .f32⟩
  | 91 => ⟨S_, .f32⟩
  | 92 => ⟨S4x4096x1024, .f32⟩
  | 93 => ⟨S4x4096x1024, .f32⟩
  | 94 => ⟨S_, .f32⟩
  | 95 => ⟨S4x4096, .f32⟩
  | 96 => ⟨S_, .f32⟩
  | 97 => ⟨S4x4096, .f32⟩
  | 98 => ⟨S4x4096, .f32⟩
  | 99 => ⟨S_, .f32⟩
  | 100 => ⟨S_, .f32⟩
  | 101 => ⟨S_, .f32⟩
  | 102 => ⟨S4x4096, .f32⟩
  | 103 => ⟨S_, .f32⟩
  | 104 => ⟨S4x4096, .f32⟩
  | 105 => ⟨S4x4096, .f32⟩
  | 106 => ⟨S4x4096x1024, .f32⟩
  | 107 => ⟨S4x4096x1024, .f32⟩
  | 108 => ⟨S1024x2048, .f32⟩
  | 109 => ⟨S2048x1024, .f32⟩
  | 110 => ⟨S4x4096x2048, .f32⟩
  | 111 => ⟨S1024x2048, .f32⟩
  | 112 => ⟨S4x4096x2048, .f32⟩
  | 113 => ⟨S4x4096x2048, .f32⟩
  | 114 => ⟨S4x4096x2048, .f32⟩
  | 115 => ⟨S4x4096x2048, .f32⟩
  | 116 => ⟨S2048x1024, .f32⟩
  | 117 => ⟨S1024x2048, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S1024x2048, .f32⟩
  | 125 => ⟨S1024x2048, .f32⟩
  | 126 => ⟨S1024x2048, .f32⟩
  | 127 => ⟨S1024x2048, .f32⟩
  | _ => ⟨S4x4096x1024, .f32⟩

abbrev hbmTy0_1 (i : Nat) : BufTy := match i % 128 with
  | 0 => ⟨S1024x2048, .f32⟩
  | 1 => ⟨S_, .f32⟩
  | 2 => ⟨S_, .f32⟩
  | 3 => ⟨S2048x1024, .f32⟩
  | 4 => ⟨S2048x1024, .f32⟩
  | 5 => ⟨S2048x1024, .f32⟩
  | 6 => ⟨S_, .f32⟩
  | 7 => ⟨S_, .f32⟩
  | 8 => ⟨S1024x2048, .f32⟩
  | 9 => ⟨S1024x2048, .f32⟩
  | 10 => ⟨S1024x2048, .f32⟩
  | 11 => ⟨S1024x2048, .f32⟩
  | 12 => ⟨S4x4096x2048, .f32⟩
  | 13 => ⟨S4x4096x2048, .f32⟩
  | 14 => ⟨S4x4096x2048, .f32⟩
  | 15 => ⟨S_, .f32⟩
  | 16 => ⟨S4x4096x2048, .f32⟩
  | 17 => ⟨S4x4096x2048, .f32⟩
  | 18 => ⟨S_, .f32⟩
  | 19 => ⟨S4x4096x2048, .f32⟩
  | 20 => ⟨S4x4096x2048, .f32⟩
  | 21 => ⟨S4x4096x2048, .f32⟩
  | 22 => ⟨S2048x1024, .f32⟩
  | 23 => ⟨S4x4096x1024, .f32⟩
  | 24 => ⟨S1024x1024, .f32⟩
  | 25 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_v47_2 : Ref sig .tc := ⟨.hbm, 81, rfl⟩
abbrev main_call0_cst_1 : Ref sig .tc := ⟨.hbm, 82, rfl⟩
abbrev main_call0_v6 : Ref sig .tc := ⟨.hbm, 83, rfl⟩
abbrev main_call0_v7 : Ref sig .tc := ⟨.hbm, 84, rfl⟩
abbrev main_v47_1 : Ref sig .tc := ⟨.hbm, 85, rfl⟩
abbrev main_v47_0 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_11 : Ref sig .tc := ⟨.hbm, 91, rfl⟩
abbrev main_v52 : Ref sig .tc := ⟨.hbm, 92, rfl⟩
abbrev main_v53 : Ref sig .tc := ⟨.hbm, 93, rfl⟩
abbrev main_cst_12 : Ref sig .tc := ⟨.hbm, 94, rfl⟩
abbrev main_v54 : Ref sig .tc := ⟨.hbm, 95, rfl⟩
abbrev main_cst_13 : Ref sig .tc := ⟨.hbm, 96, rfl⟩
abbrev main_v55 : Ref sig .tc := ⟨.hbm, 97, rfl⟩
abbrev main_v56 : Ref sig .tc := ⟨.hbm, 98, rfl⟩
abbrev main_cst_14 : Ref sig .tc := ⟨.hbm, 99, rfl⟩
abbrev main_v57 : Ref sig .tc := ⟨.hbm, 100, rfl⟩
abbrev main_cst_15 : Ref sig .tc := ⟨.hbm, 101, rfl⟩
abbrev main_v58 : Ref sig .tc := ⟨.hbm, 102, rfl⟩
abbrev main_cst_16 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_17 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_18 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call2_v0 : Ref sig .tc := ⟨.hbm, 141, rfl⟩
abbrev main_call2_v1 : Ref sig .tc := ⟨.hbm, 142, rfl⟩
abbrev main_call2_cst : Ref sig .tc := ⟨.hbm, 143, rfl⟩
abbrev main_call2_v2 : Ref sig .tc := ⟨.hbm, 144, rfl⟩
abbrev main_call2_v3 : Ref sig .tc := ⟨.hbm, 145, rfl⟩
abbrev main_call2_cst_0 : Ref sig .tc := ⟨.hbm, 146, rfl⟩
abbrev main_call2_v4 : Ref sig .tc := ⟨.hbm, 147, rfl⟩
abbrev main_call2_v5 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]
-- ==== Proof.Stores.lean ====
module

public import Idealize.ShloMosaic.Lib.Pipeline.Value
public import Idealize.ShloMosaic.Lib.Pipeline.FrameBody

/-! Stores and copies of a whole buffer, read back. -/

@[expose] public section

noncomputable section

namespace Cert.Stores

open Idealize.ShloMosaic

variable {Val : EltTy → Type} [∀ e, Nonempty (Val e)] {sig : RefSig} {κ : Kind} {sp : Space} {S : Shape} {e : EltTy}

/-- Writing the whole shape last leaves what was written. -/
theorem canon_whole (w : S.Idx → Val e) (L : List (View.Piece Val S e)) :
    View.canon ((⟨Rect.whole S, w⟩ : View.Piece Val S e) :: L) = w := by
  funext y
  have h := View.canon_cons_emb (Val := Val) (Rect.whole S) w L y
  rw [Rect.emb_whole_apply] at h
  exact h

theorem cover_whole (w : S.Idx → Val e) (L : List (View.Piece Val S e)) (y : S.Idx) :
    ∃ p ∈ ((⟨Rect.whole S, w⟩ : View.Piece Val S e) :: L), y ∈ p.1.set :=
  ⟨_, List.mem_cons_self, by
    have h := Rect.emb_whole_apply S y
    rw [← Rect.map_emb_univ]
    exact Finset.mem_map.mpr ⟨y, Finset.mem_univ _, h⟩⟩

/-- A buffer written whole reads as what was written. -/
theorem read_whole (v : View sig κ sp S e) (f : v.ty.Contents Val) (w : S.Idx → Val e) (L : List (View.Piece Val S e)) :
    v.read Val (v.writes Val f ((⟨Rect.whole S, w⟩ : View.Piece Val S e) :: L)) = w :=
  (View.read_writes_eq_canon v f _ (cover_whole w L)).trans (canon_whole w L)

/-- A load after writing the whole buffer reads what was written. -/
theorem readCov_whole (v : View sig κ sp S e) (w : S.Idx → Val e) (L : List (View.Piece Val S e)) (r : Rect S) :
    v.readCov ((⟨Rect.whole S, w⟩ : View.Piece Val S e) :: L) r = View.ld w r := by
  rw [View.readCov_eq_canon_ld v _ r (cover_whole w L), canon_whole]

/-- An offset at which the whole size fits is zero. -/
theorem off_zero {off : Fin S.rank → ℕ} (inb : ∀ a, off a + S.size a ≤ S.size a) : off = fun _ => 0 :=
  funext fun a => by have := inb a; omega

/-- Storing the whole size last leaves what was stored. -/
theorem canon_full {off : Fin S.rank → ℕ} (inb : ∀ a, off a + S.size a ≤ S.size a) (w : S.Idx → Val e) (L : List (View.Piece Val S e)) :
    View.canon ((⟨Rect.unit off S.size inb, w⟩ : View.Piece Val S e) :: L) = w :=
  View.canon_cons_unit_zero (off_zero inb) inb w L

theorem ld_full {off : Fin S.rank → ℕ} (inb : ∀ a, off a + S.size a ≤ S.size a) (X : S.Idx → Val e) :
    View.ld X (Rect.unit off S.size inb) = X :=
  View.ld_unit_zero (off_zero inb) inb X

/-- A load of the whole size reads the buffer. -/
theorem readAt_full (v : View sig κ sp S e) (f : v.ty.Contents Val) {off : Fin S.rank → ℕ} (inb : ∀ a, off a + S.size a ≤ S.size a) :
    v.readAt Val (Rect.unit off S.size inb).toLoadRect f = v.read Val f := by
  rw [View.readAt_eq_ld, ld_full]

/-- A load of the whole size after stores reads what they left. -/
theorem readCov_full (v : View sig κ sp S e) (L : List (View.Piece Val S e)) {off : Fin S.rank → ℕ} (inb : ∀ a, off a + S.size a ≤ S.size a) :
    v.readCov L (Rect.unit off S.size inb).toLoadRect = View.canon L := by
  rw [View.readCov_eq_canon' v L]
  exact ld_full inb (View.canon L)

theorem cover_full {off : Fin S.rank → ℕ} (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  have h := off_zero inb
  subst h
  exact cover_whole w L y

/-- A buffer stored whole reads as what was stored. -/
theorem read_full (v : View sig κ sp S e) (f : v.ty.Contents Val) {off : Fin S.rank → ℕ} (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ (cover_full inb w L)).trans (canon_full inb w L)

end Cert.Stores

end
-- ==== Proof.Region0Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp
public import proofs.«01_k».proof.Proof.Stores

/-! The first call: both gradients and the gates' sums, one slab per core, summed over the core's sixteen blocks. -/

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ

variable (V : Dev nD → Valuation τ sig (Elt F))

/-- Window `w`'s block at point `t`, of its array at the call's entry. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body stages the weights and clears the sums exactly at the points that are 0 modulo 16. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (fun t => by
    have ht : t.val < 32 := Nat.lt_of_lt_of_eq t.isLt N_0
    have e1 : (grid0.coords t 1).val = t.val / 1 % 16 := Pipeline.Grid.coords_val t 1 (by decide) rfl
    simp only [cond0, e1]
    word_cmp
   : ∀ t : Fin grid0.N, cond0 (grid0.coords t) ↔ t.val % 16 = 0)
/-- It writes the sums back exactly at the points that are 15 modulo 16. -/
abbrev cond1 (i : grid0.Coords) : Prop := k0_cond2 i = 1#1
theorem hcond1 : ∀ t : Fin cfg0.N, cond1 (grid0.coords t) ↔ t.val % 16 = 15 :=
  (fun t => by
    have ht : t.val < 32 := Nat.lt_of_lt_of_eq t.isLt N_0
    have e1 : (grid0.coords t 1).val = t.val / 1 % 16 := Pipeline.Grid.coords_val t 1 (by decide) rfl
    simp only [cond1, k0_cond2, e1]
    word_cmp
   : ∀ t : Fin grid0.N, cond1 (grid0.coords t) ↔ t.val % 16 = 15)

abbrev scM0 : Memref sig .tc .vmem S1024x2048 .bf16 := Memref.whole cc0_scratch0
abbrev scM1 : Memref sig .tc .vmem S1024x2048 .bf16 := Memref.whole cc0_scratch1
abbrev scM2 : Memref sig .tc .vmem S2048x1024 .bf16 := Memref.whole cc0_scratch2
abbrev scM3 : Memref sig .tc .vmem S1024x2048 .bf16 := Memref.whole cc0_scratch3
abbrev scM4 : Memref sig .tc .vmem S1024x3072 .fp8e4m3 := Memref.whole cc0_scratch4
abbrev scM5 : Memref sig .tc .vmem S512x1024 .bf16 := Memref.whole cc0_scratch5
abbrev scM6 : Memref sig .tc .vmem S512x2048 .bf16 := Memref.whole cc0_scratch6
abbrev scM7 : Memref sig .tc .vmem S512x1024 .bf16 := Memref.whole cc0_scratch7
abbrev scM8 : Memref sig .tc .vmem S512x2048 .bf16 := Memref.whole cc0_scratch8
abbrev scM9 : Memref sig .tc .vmem S2048x1024 .f32 := Memref.whole cc0_scratch9
abbrev scM10 : Memref sig .tc .vmem S1024x2048 .f32 := Memref.whole cc0_scratch10
abbrev hbM0 : Memref sig .tc .hbm S1024x2048 .bf16 := Memref.whole main_v10
abbrev hbM1 : Memref sig .tc .hbm S1024x2048 .bf16 := Memref.whole main_v12
abbrev hbM2 : Memref sig .tc .hbm S2048x1024 .bf16 := Memref.whole main_v14
abbrev hbM3 : Memref sig .tc .hbm S1024x2048 .bf16 := Memref.whole main_v15
abbrev hbM4 : Memref sig .tc .hbm S1024x3072 .fp8e4m3 := Memref.whole main_v3
abbrev hbM5 : Memref sig .tc .hbm S2x2048x1024 .f32 := Memref.whole main_v16_1
abbrev hbM6 : Memref sig .tc .hbm S2x1024x2048 .f32 := Memref.whole main_v16_2
abbrev HbBuf (c : Dev nD) {s : Shape} {e : EltTy} (a : Memref sig .tc .hbm s e) : Type := Buf (Elt F) (a.view.loc (c : Thread nD τ))
abbrev hbPt (c : Dev nD) {s : Shape} {e : EltTy} (a : Memref sig .tc .hbm s e) (f : HbBuf (F := F) c a) : sProp 𝕄 :=
  a.view.loc (c : Thread nD τ) ↦{fullShare} f

abbrev rXT : Rect S512x1024 := Rect.unit ![0, 0] S256x1024.size inb_S512x1024_S256x1024_0_0
abbrev rXB : Rect S512x1024 := Rect.unit ![256, 0] S256x1024.size inb_S512x1024_S256x1024_256_0
abbrev rHT : Rect S512x2048 := Rect.unit ![0, 0] S256x2048.size inb_S512x2048_S256x2048_0_0
abbrev rHB : Rect S512x2048 := Rect.unit ![256, 0] S256x2048.size inb_S512x2048_S256x2048_256_0

/-! What one point computes: the block's rows in two halves of 256. -/

def xT (x : Vec F S512x1024 .f32) : Vec F S256x1024 .f32 := View.ld x rXT
def xB (x : Vec F S512x1024 .f32) : Vec F S256x1024 .f32 := View.ld x rXB
/-- The keys. -/
def kaF (x : Vec F S512x1024 .f32) (wk : Vec F S1024x2048 .bf16) : Vec F S512x1024 .bf16 :=
  View.canon [⟨rXB, k0_pay24 (xB x) wk⟩, ⟨rXT, k0_pay11 (xT x) wk⟩]
/-- The activations. -/
def aaF (x : Vec F S512x1024 .f32) (wk m1t : Vec F S1024x2048 .bf16) : Vec F S512x2048 .bf16 :=
  View.canon [⟨rHB, k0_pay29 (k0_pay25 (xB x) wk m1t) (k0_pay26 (xB x) wk m1t) (Scalar.ofBits .f32 0x3F800000#32)⟩, ⟨rHT, k0_pay15 (k0_pay9 (xT x) wk) m1t⟩]
/-- The scaled residuals. -/
def raF (x : Vec F S512x1024 .f32) (wk m1t : Vec F S1024x2048 .bf16) (m2t : Vec F S2048x1024 .bf16) : Vec F S512x1024 .bf16 :=
  View.canon [⟨rXB, k0_pay31 (k0_pay23 (xB x) wk) (k0_pay25 (xB x) wk m1t) (k0_pay26 (xB x) wk m1t) (Scalar.ofBits .f32 0x3F800000#32) m2t⟩,
    ⟨rXT, k0_pay17 (k0_pay9 (xT x) wk) (k0_pay10 (xT x) wk) m1t m2t⟩]
/-- The gradients at the first product. -/
def dhF (x : Vec F S512x1024 .f32) (wk m1t : Vec F S1024x2048 .bf16) (m2t : Vec F S2048x1024 .bf16) (m2 : Vec F S1024x2048 .bf16) : Vec F S512x2048 .bf16 :=
  View.canon [⟨rHB, k0_pay32 (k0_pay23 (xB x) wk) (k0_pay25 (xB x) wk m1t) (k0_pay26 (xB x) wk m1t) (Scalar.ofBits .f32 0x3F800000#32) m2t m2⟩,
    ⟨rHT, k0_pay18 (k0_pay9 (xT x) wk) (k0_pay10 (xT x) wk) m1t m2t m2⟩]
/-- The first matrix's gradient sum after the block. -/
def stepG1 (x : Vec F S512x1024 .f32) (wk m1t : Vec F S1024x2048 .bf16) (m2t : Vec F S2048x1024 .bf16) (m2 : Vec F S1024x2048 .bf16) (g1 : Vec F S2048x1024 .f32) : Vec F S2048x1024 .f32 :=
  k0_pay1 g1 (dhF x wk m1t m2t m2) (kaF x wk) (constant S2048x1024 .f32 0x00000000#32)
/-- The second matrix's gradient sum after the block. -/
def stepG2 (x : Vec F S512x1024 .f32) (wk m1t : Vec F S1024x2048 .bf16) (m2t : Vec F S2048x1024 .bf16) (g2 : Vec F S1024x2048 .f32) : Vec F S1024x2048 .f32 :=
  k0_pay2 g2 (raF x wk m1t m2t) (aaF x wk m1t)
/-- The gates' sums after the block. -/
def stepGs (x : Vec F S512x1024 .f32) (wg : Vec F S1024x3072 .fp8e4m3) (hb : Vec F S1x3072 .f32) (gs : Vec F S1x8x3072 .f32) : Vec F S1x8x3072 .f32 :=
  k0_pay20 (xB x) wg hb (k0_pay7 (xT x) wg hb gs)

/-- The first gradient written back into its core's slab. -/
def put1 (c : Dev nD) (i : grid0.Coords) (h : cond1 i) (f : HbBuf (F := F) c hbM5) (g : Vec F S2048x1024 .f32) : HbBuf (F := F) c hbM5 :=
  View.write (Elt F) ((hbM5.slice (Rect.unit (s := S2x2048x1024) (k0_off1 i) S1x2048x1024.size (k0_off1_inb i h)) (fun _ => rfl)).squeeze S2048x1024 squeezes_S1x2048x1024_S2048x1024).view f (ReadAs.same.apply g) Finset.univ
/-- The second gradient written back into its core's slab. -/
def put2 (c : Dev nD) (i : grid0.Coords) (h : cond1 i) (f : HbBuf (F := F) c hbM6) (g : Vec F S1024x2048 .f32) : HbBuf (F := F) c hbM6 :=
  View.write (Elt F) ((hbM6.slice (Rect.unit (s := S2x1024x2048) (k0_off2 i) S1x1024x2048.size (k0_off2_inb i h)) (fun _ => rfl)).squeeze S1024x2048 squeezes_S1x1024x2048_S1024x2048).view f (ReadAs.same.apply g) Finset.univ

end Cert.KernelIdeal.Grad
-- ==== Proof.Region0Stage.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp
public import proofs.«01_k».proof.Proof.Stores
public import proofs.«01_k».proof.Proof.Region0Base

/-! The first call: both gradients and the gates' sums, one slab per core, summed over the core's sixteen blocks. -/

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ
-- triple

set_option maxHeartbeats 4000000 in
/-- The body at a core's first point: the weights are copied into scratch and the sums start from zero. -/
theorem body_stage (c : Dev nD) (i : grid0.Coords) (arg2 : Memref sig .tc .vmem S512x1024 .f32) (harg2 : arg2.IsWhole) (arg8 : Memref sig .tc .vmem S1x3072 .f32) (harg8 : arg8.IsWhole) (arg9 : Memref sig .tc .vmem S1x8x3072 .f32) (harg9 : arg9.IsWhole) (arg12 : Memref sig .tc .vmem S1024x2048 .bf16) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S1024x3072 .fp8e4m3) (harg16 : arg16.IsWhole) (arg17 : Memref sig .tc .vmem S512x1024 .bf16) (harg17 : arg17.IsWhole) (arg18 : Memref sig .tc .vmem S512x2048 .bf16) (harg18 : arg18.IsWhole) (arg19 : Memref sig .tc .vmem S512x1024 .bf16) (harg19 : arg19.IsWhole) (arg20 : Memref sig .tc .vmem S512x2048 .bf16) (harg20 : arg20.IsWhole) (arg21 : Memref sig .tc .vmem S2048x1024 .f32) (harg21 : arg21.IsWhole) (arg22 : Memref sig .tc .vmem S1024x2048 .f32) (harg22 : arg22.IsWhole) (hc0 : cond0 i) (hc1 : ¬ cond1 i)
    (x : Vec F S512x1024 .f32) (hb : Vec F S1x3072 .f32) (wk : Vec F S1024x2048 .bf16) (m1t : Vec F S1024x2048 .bf16) (m2t : Vec F S2048x1024 .bf16) (m2 : Vec F S1024x2048 .bf16) (wg : Vec F S1024x3072 .fp8e4m3) (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5) (fh6 : HbBuf (F := F) c hbM6) (e0 : hbM0.view.read (Elt F) fh0 = wk) (e1 : hbM1.view.read (Elt F) fh1 = m1t) (e2 : hbM2.view.read (Elt F) fh2 = m2t) (e3 : hbM3.view.read (Elt F) fh3 = m2) (e4 : hbM4.view.read (Elt F) fh4 = wg) (Wt : Waits sig Unit) (K : PUnit → sProp 𝕄) :
    iprop(owns (c : Thread nD τ) arg2 fullShare x ∗ owns (c : Thread nD τ) arg8 fullShare hb ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM0 fh0 ∗ hbPt c hbM1 fh1 ∗ hbPt c hbM2 fh2 ∗ hbPt c hbM3 fh3 ∗ hbPt c hbM4 fh4 ∗ hbPt c hbM5 fh5 ∗ hbPt c hbM6 fh6 ∗ owes (c : Thread nD τ) 0 Wt
        ∗ (iprop(owns (c : Thread nD τ) arg2 fullShare x ∗ owns (c : Thread nD τ) arg8 fullShare hb ∗ owns (c : Thread nD τ) arg9 fullShare (stepGs x wg hb (k0_pay5 (F := F))) ∗ owns (c : Thread nD τ) arg12 fullShare wk ∗ owns (c : Thread nD τ) arg13 fullShare m1t ∗ owns (c : Thread nD τ) arg14 fullShare m2t ∗ owns (c : Thread nD τ) arg15 fullShare m2 ∗ owns (c : Thread nD τ) arg16 fullShare wg ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (stepG1 x wk m1t m2t m2 (k0_pay3 (F := F))) ∗ owns (c : Thread nD τ) arg22 fullShare (stepG2 x wk m1t m2t (k0_pay4 (F := F))) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM0 fh0 ∗ hbPt c hbM1 fh1 ∗ hbPt c hbM2 fh2 ∗ hbPt c hbM3 fh3 ∗ hbPt c hbM4 fh4 ∗ hbPt c hbM5 fh5 ∗ hbPt c hbM6 fh6 ∗ (∃ W', owes (c : Thread nD τ) 0 W')) -∗ K ⟨⟩))
      ⊢ wp frame (wpE (defs₀ (F := F)) Variants.none c none) Set.univ (cc0_ltm_gradg i arg2 harg2 (Memref.whole main_v10) (Memref.isWhole_whole _) (Memref.whole main_v12) (Memref.isWhole_whole _) (Memref.whole main_v14) (Memref.isWhole_whole _) (Memref.whole main_v15) (Memref.isWhole_whole _) (Memref.whole main_v3) (Memref.isWhole_whole _) arg8 harg8 arg9 harg9 (Memref.whole main_v16_1) (Memref.isWhole_whole _) (Memref.whole main_v16_2) (Memref.isWhole_whole _) arg12 harg12 arg13 harg13 arg14 harg14 arg15 harg15 arg16 harg16 arg17 harg17 arg18 harg18 arg19 harg19 arg20 harg20 arg21 harg21 arg22 harg22 cc0_scratch11) K := by
  simp only [cc0_ltm_gradg_eq_skeleton]; unfold cc0_ltm_gradg_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hq0, Hq1, Hq2, Hq3, Hq4, Hh0, Hh1, Hh2, Hh3, Hh4, Hh5, Hh6, HW, Hk⟩
  subst hf0 hf1
  subst e0 e1 e2 e3 e4
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro
    repeat delta body_stage.sl.HS5_2 body_stage.sl.HS6_2 body_stage.sl.cst_63 body_stage.sl.dma0_4 body_stage.sl.r body_stage.sl.HS7_2 body_stage.sl.r_4 body_stage.sl.v81 body_stage.sl.r_1 body_stage.sl.r_2 body_stage.sl.v133 body_stage.sl.r_3 body_stage.sl.v32 body_stage.sl.v134 body_stage.sl.v16 body_stage.sl.v0 body_stage.sl.v55 body_stage.sl.v7 body_stage.sl.v143 body_stage.sl.v46 body_stage.sl.v1 body_stage.sl.cst_86 body_stage.sl.v141 body_stage.sl.dma0 body_stage.sl.H2_1 body_stage.sl.v2 body_stage.sl.HS9_1 body_stage.sl.v24 body_stage.sl.HS10_1 body_stage.sl.H2_2 body_stage.sl.dma0_2 body_stage.sl.dma0_1 body_stage.sl.v142 body_stage.sl.HS8_2 body_stage.sl.dma0_3 body_stage.sl.v135
    refine (Stores.read_full _ _ _ _ _).trans ?_
    repeat rw [Stores.readAt_full]
    repeat rw [Stores.ld_full]
    repeat rw [Stores.readCov_full]
    repeat rw [Stores.canon_full]
    repeat rw [Stores.canon_whole]
    rfl
  isplitl [HS0]
  · iexists _; isplitr; swap; · iexact HS0
    ipureintro
    exact Stores.read_whole _ _ _ _
  isplitl [HS1]
  · iexists _; isplitr; swap; · iexact HS1
    ipureintro
    exact Stores.read_whole _ _ _ _
  isplitl [HS2]
  · iexists _; isplitr; swap; · iexact HS2
    ipureintro
    exact Stores.read_whole _ _ _ _
  isplitl [HS3]
  · iexists _; isplitr; swap; · iexact HS3
    ipureintro
    exact Stores.read_whole _ _ _ _
  isplitl [HS4]
  · iexists _; isplitr; swap; · iexact HS4
    ipureintro
    exact Stores.read_whole _ _ _ _
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _; isplitr; swap; · iexact HS9
    ipureintro
    repeat delta body_stage.sl.HS5_2 body_stage.sl.HS6_2 body_stage.sl.cst_63 body_stage.sl.dma0_4 body_stage.sl.r body_stage.sl.HS7_2 body_stage.sl.r_4 body_stage.sl.v81 body_stage.sl.r_1 body_stage.sl.r_2 body_stage.sl.v133 body_stage.sl.r_3 body_stage.sl.v32 body_stage.sl.v134 body_stage.sl.v16 body_stage.sl.v0 body_stage.sl.v55 body_stage.sl.v7 body_stage.sl.v143 body_stage.sl.v46 body_stage.sl.v1 body_stage.sl.cst_86 body_stage.sl.v141 body_stage.sl.dma0 body_stage.sl.H2_1 body_stage.sl.v2 body_stage.sl.HS9_1 body_stage.sl.v24 body_stage.sl.HS10_1 body_stage.sl.H2_2 body_stage.sl.dma0_2 body_stage.sl.dma0_1 body_stage.sl.v142 body_stage.sl.HS8_2 body_stage.sl.dma0_3 body_stage.sl.v135
    refine (Stores.read_full _ _ _ _ _).trans ?_
    repeat rw [Stores.readAt_full]
    repeat rw [Stores.ld_full]
    repeat rw [Stores.readCov_full]
    repeat rw [Stores.canon_full]
    repeat rw [Stores.canon_whole]
    rfl
  isplitl [HS10]
  · iexists _; isplitr; swap; · iexact HS10
    ipureintro
    repeat delta body_stage.sl.HS5_2 body_stage.sl.HS6_2 body_stage.sl.cst_63 body_stage.sl.dma0_4 body_stage.sl.r body_stage.sl.HS7_2 body_stage.sl.r_4 body_stage.sl.v81 body_stage.sl.r_1 body_stage.sl.r_2 body_stage.sl.v133 body_stage.sl.r_3 body_stage.sl.v32 body_stage.sl.v134 body_stage.sl.v16 body_stage.sl.v0 body_stage.sl.v55 body_stage.sl.v7 body_stage.sl.v143 body_stage.sl.v46 body_stage.sl.v1 body_stage.sl.cst_86 body_stage.sl.v141 body_stage.sl.dma0 body_stage.sl.H2_1 body_stage.sl.v2 body_stage.sl.HS9_1 body_stage.sl.v24 body_stage.sl.HS10_1 body_stage.sl.H2_2 body_stage.sl.dma0_2 body_stage.sl.dma0_1 body_stage.sl.v142 body_stage.sl.HS8_2 body_stage.sl.dma0_3 body_stage.sl.v135
    refine (Stores.read_full _ _ _ _ _).trans ?_
    repeat rw [Stores.readAt_full]
    repeat rw [Stores.ld_full]
    repeat rw [Stores.readCov_full]
    repeat rw [Stores.canon_full]
    repeat rw [Stores.canon_whole]
    rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  iexists _; iexact HW

end Cert.KernelIdeal.Grad
-- ==== Proof.Region0Keep.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp
public import proofs.«01_k».proof.Proof.Stores
public import proofs.«01_k».proof.Proof.Region0Stage

/-! The first call: both gradients and the gates' sums, one slab per core, summed over the core's sixteen blocks. -/

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ
-- triple

set_option maxHeartbeats 4000000 in
/-- The body between a core's first and last point. -/
theorem body_keep (c : Dev nD) (i : grid0.Coords) (arg2 : Memref sig .tc .vmem S512x1024 .f32) (harg2 : arg2.IsWhole) (arg8 : Memref sig .tc .vmem S1x3072 .f32) (harg8 : arg8.IsWhole) (arg9 : Memref sig .tc .vmem S1x8x3072 .f32) (harg9 : arg9.IsWhole) (arg12 : Memref sig .tc .vmem S1024x2048 .bf16) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S1024x3072 .fp8e4m3) (harg16 : arg16.IsWhole) (arg17 : Memref sig .tc .vmem S512x1024 .bf16) (harg17 : arg17.IsWhole) (arg18 : Memref sig .tc .vmem S512x2048 .bf16) (harg18 : arg18.IsWhole) (arg19 : Memref sig .tc .vmem S512x1024 .bf16) (harg19 : arg19.IsWhole) (arg20 : Memref sig .tc .vmem S512x2048 .bf16) (harg20 : arg20.IsWhole) (arg21 : Memref sig .tc .vmem S2048x1024 .f32) (harg21 : arg21.IsWhole) (arg22 : Memref sig .tc .vmem S1024x2048 .f32) (harg22 : arg22.IsWhole) (hc0 : ¬ cond0 i) (hc1 : ¬ cond1 i)
    (x : Vec F S512x1024 .f32) (hb : Vec F S1x3072 .f32) (wk : Vec F S1024x2048 .bf16) (m1t : Vec F S1024x2048 .bf16) (m2t : Vec F S2048x1024 .bf16) (m2 : Vec F S1024x2048 .bf16) (wg : Vec F S1024x3072 .fp8e4m3) (gs : Vec F S1x8x3072 .f32) (g1 : Vec F S2048x1024 .f32) (g2 : Vec F S1024x2048 .f32) (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5) (fh6 : HbBuf (F := F) c hbM6) (Wt : Waits sig Unit) (K : PUnit → sProp 𝕄) :
    iprop(owns (c : Thread nD τ) arg2 fullShare x ∗ owns (c : Thread nD τ) arg8 fullShare hb ∗ owns (c : Thread nD τ) arg9 fullShare gs ∗ owns (c : Thread nD τ) arg12 fullShare wk ∗ owns (c : Thread nD τ) arg13 fullShare m1t ∗ owns (c : Thread nD τ) arg14 fullShare m2t ∗ owns (c : Thread nD τ) arg15 fullShare m2 ∗ owns (c : Thread nD τ) arg16 fullShare wg ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare g1 ∗ owns (c : Thread nD τ) arg22 fullShare g2 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM0 fh0 ∗ hbPt c hbM1 fh1 ∗ hbPt c hbM2 fh2 ∗ hbPt c hbM3 fh3 ∗ hbPt c hbM4 fh4 ∗ hbPt c hbM5 fh5 ∗ hbPt c hbM6 fh6 ∗ owes (c : Thread nD τ) 0 Wt
        ∗ (iprop(owns (c : Thread nD τ) arg2 fullShare x ∗ owns (c : Thread nD τ) arg8 fullShare hb ∗ owns (c : Thread nD τ) arg9 fullShare (stepGs x wg hb gs) ∗ owns (c : Thread nD τ) arg12 fullShare wk ∗ owns (c : Thread nD τ) arg13 fullShare m1t ∗ owns (c : Thread nD τ) arg14 fullShare m2t ∗ owns (c : Thread nD τ) arg15 fullShare m2 ∗ owns (c : Thread nD τ) arg16 fullShare wg ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (stepG1 x wk m1t m2t m2 g1) ∗ owns (c : Thread nD τ) arg22 fullShare (stepG2 x wk m1t m2t g2) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM0 fh0 ∗ hbPt c hbM1 fh1 ∗ hbPt c hbM2 fh2 ∗ hbPt c hbM3 fh3 ∗ hbPt c hbM4 fh4 ∗ hbPt c hbM5 fh5 ∗ hbPt c hbM6 fh6 ∗ (∃ W', owes (c : Thread nD τ) 0 W')) -∗ K ⟨⟩))
      ⊢ wp frame (wpE (defs₀ (F := F)) Variants.none c none) Set.univ (cc0_ltm_gradg i arg2 harg2 (Memref.whole main_v10) (Memref.isWhole_whole _) (Memref.whole main_v12) (Memref.isWhole_whole _) (Memref.whole main_v14) (Memref.isWhole_whole _) (Memref.whole main_v15) (Memref.isWhole_whole _) (Memref.whole main_v3) (Memref.isWhole_whole _) arg8 harg8 arg9 harg9 (Memref.whole main_v16_1) (Memref.isWhole_whole _) (Memref.whole main_v16_2) (Memref.isWhole_whole _) arg12 harg12 arg13 harg13 arg14 harg14 arg15 harg15 arg16 harg16 arg17 harg17 arg18 harg18 arg19 harg19 arg20 harg20 arg21 harg21 arg22 harg22 cc0_scratch11) K := by
  simp only [cc0_ltm_gradg_eq_skeleton]; unfold cc0_ltm_gradg_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, ⟨%fs9, %hfs9, HS9⟩, ⟨%fs10, %hfs10, HS10⟩, Hq0, Hq1, Hq2, Hq3, Hq4, Hh0, Hh1, Hh2, Hh3, Hh4, Hh5, Hh6, HW, Hk⟩
  subst hf0 hf1 hf2 hfs0 hfs1 hfs2 hfs3 hfs4 hfs9 hfs10
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro
    repeat delta body_keep.sl.r_3 body_keep.sl.v0 body_keep.sl.v134 body_keep.sl.v2 body_keep.sl.cst_86 body_keep.sl.v142 body_keep.sl.v135 body_keep.sl.HS8_2 body_keep.sl.r body_keep.sl.r_4 body_keep.sl.HS7_2 body_keep.sl.r_2 body_keep.sl.v81 body_keep.sl.r_1 body_keep.sl.r_5 body_keep.sl.HS5_2 body_keep.sl.HS6_2 body_keep.sl.H2_1 body_keep.sl.cst_63 body_keep.sl.v143 body_keep.sl.v1
    refine (Stores.read_full _ _ _ _ _).trans ?_
    repeat rw [Stores.readAt_full]
    repeat rw [Stores.ld_full]
    repeat rw [Stores.readCov_full]
    repeat rw [Stores.canon_full]
    rfl
  isplitl [HS0]
  · iexists _; isplitr; swap; · iexact HS0
    ipureintro
    rfl
  isplitl [HS1]
  · iexists _; isplitr; swap; · iexact HS1
    ipureintro
    rfl
  isplitl [HS2]
  · iexists _; isplitr; swap; · iexact HS2
    ipureintro
    rfl
  isplitl [HS3]
  · iexists _; isplitr; swap; · iexact HS3
    ipureintro
    rfl
  isplitl [HS4]
  · iexists _; isplitr; swap; · iexact HS4
    ipureintro
    rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _; isplitr; swap; · iexact HS9
    ipureintro
    repeat delta body_keep.sl.r_3 body_keep.sl.v0 body_keep.sl.v134 body_keep.sl.v2 body_keep.sl.cst_86 body_keep.sl.v142 body_keep.sl.v135 body_keep.sl.HS8_2 body_keep.sl.r body_keep.sl.r_4 body_keep.sl.HS7_2 body_keep.sl.r_2 body_keep.sl.v81 body_keep.sl.r_1 body_keep.sl.r_5 body_keep.sl.HS5_2 body_keep.sl.HS6_2 body_keep.sl.H2_1 body_keep.sl.cst_63 body_keep.sl.v143 body_keep.sl.v1
    refine (Stores.read_full _ _ _ _ _).trans ?_
    repeat rw [Stores.readAt_full]
    repeat rw [Stores.ld_full]
    repeat rw [Stores.readCov_full]
    repeat rw [Stores.canon_full]
    rfl
  isplitl [HS10]
  · iexists _; isplitr; swap; · iexact HS10
    ipureintro
    repeat delta body_keep.sl.r_3 body_keep.sl.v0 body_keep.sl.v134 body_keep.sl.v2 body_keep.sl.cst_86 body_keep.sl.v142 body_keep.sl.v135 body_keep.sl.HS8_2 body_keep.sl.r body_keep.sl.r_4 body_keep.sl.HS7_2 body_keep.sl.r_2 body_keep.sl.v81 body_keep.sl.r_1 body_keep.sl.r_5 body_keep.sl.HS5_2 body_keep.sl.HS6_2 body_keep.sl.H2_1 body_keep.sl.cst_63 body_keep.sl.v143 body_keep.sl.v1
    refine (Stores.read_full _ _ _ _ _).trans ?_
    repeat rw [Stores.readAt_full]
    repeat rw [Stores.ld_full]
    repeat rw [Stores.readCov_full]
    repeat rw [Stores.canon_full]
    rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  iexists _; iexact HW

end Cert.KernelIdeal.Grad
-- ==== Proof.Region0Flush.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp
public import proofs.«01_k».proof.Proof.Stores
public import proofs.«01_k».proof.Proof.Region0Keep

/-! The first call: both gradients and the gates' sums, one slab per core, summed over the core's sixteen blocks. -/

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ
-- triple

set_option maxHeartbeats 4000000 in
/-- The body at a core's last point: the sums are written back into the core's slabs. -/
theorem body_flush (c : Dev nD) (i : grid0.Coords) (arg2 : Memref sig .tc .vmem S512x1024 .f32) (harg2 : arg2.IsWhole) (arg8 : Memref sig .tc .vmem S1x3072 .f32) (harg8 : arg8.IsWhole) (arg9 : Memref sig .tc .vmem S1x8x3072 .f32) (harg9 : arg9.IsWhole) (arg12 : Memref sig .tc .vmem S1024x2048 .bf16) (harg12 : arg12.IsWhole) (arg13 : Memref sig .tc .vmem S1024x2048 .bf16) (harg13 : arg13.IsWhole) (arg14 : Memref sig .tc .vmem S2048x1024 .bf16) (harg14 : arg14.IsWhole) (arg15 : Memref sig .tc .vmem S1024x2048 .bf16) (harg15 : arg15.IsWhole) (arg16 : Memref sig .tc .vmem S1024x3072 .fp8e4m3) (harg16 : arg16.IsWhole) (arg17 : Memref sig .tc .vmem S512x1024 .bf16) (harg17 : arg17.IsWhole) (arg18 : Memref sig .tc .vmem S512x2048 .bf16) (harg18 : arg18.IsWhole) (arg19 : Memref sig .tc .vmem S512x1024 .bf16) (harg19 : arg19.IsWhole) (arg20 : Memref sig .tc .vmem S512x2048 .bf16) (harg20 : arg20.IsWhole) (arg21 : Memref sig .tc .vmem S2048x1024 .f32) (harg21 : arg21.IsWhole) (arg22 : Memref sig .tc .vmem S1024x2048 .f32) (harg22 : arg22.IsWhole) (hc0 : ¬ cond0 i) (hc1 : cond1 i)
    (x : Vec F S512x1024 .f32) (hb : Vec F S1x3072 .f32) (wk : Vec F S1024x2048 .bf16) (m1t : Vec F S1024x2048 .bf16) (m2t : Vec F S2048x1024 .bf16) (m2 : Vec F S1024x2048 .bf16) (wg : Vec F S1024x3072 .fp8e4m3) (gs : Vec F S1x8x3072 .f32) (g1 : Vec F S2048x1024 .f32) (g2 : Vec F S1024x2048 .f32) (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5) (fh6 : HbBuf (F := F) c hbM6) (Wt : Waits sig Unit) (K : PUnit → sProp 𝕄) :
    iprop(owns (c : Thread nD τ) arg2 fullShare x ∗ owns (c : Thread nD τ) arg8 fullShare hb ∗ owns (c : Thread nD τ) arg9 fullShare gs ∗ owns (c : Thread nD τ) arg12 fullShare wk ∗ owns (c : Thread nD τ) arg13 fullShare m1t ∗ owns (c : Thread nD τ) arg14 fullShare m2t ∗ owns (c : Thread nD τ) arg15 fullShare m2 ∗ owns (c : Thread nD τ) arg16 fullShare wg ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare g1 ∗ owns (c : Thread nD τ) arg22 fullShare g2 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM0 fh0 ∗ hbPt c hbM1 fh1 ∗ hbPt c hbM2 fh2 ∗ hbPt c hbM3 fh3 ∗ hbPt c hbM4 fh4 ∗ hbPt c hbM5 fh5 ∗ hbPt c hbM6 fh6 ∗ owes (c : Thread nD τ) 0 Wt
        ∗ (iprop(owns (c : Thread nD τ) arg2 fullShare x ∗ owns (c : Thread nD τ) arg8 fullShare hb ∗ owns (c : Thread nD τ) arg9 fullShare (stepGs x wg hb gs) ∗ owns (c : Thread nD τ) arg12 fullShare wk ∗ owns (c : Thread nD τ) arg13 fullShare m1t ∗ owns (c : Thread nD τ) arg14 fullShare m2t ∗ owns (c : Thread nD τ) arg15 fullShare m2 ∗ owns (c : Thread nD τ) arg16 fullShare wg ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (stepG1 x wk m1t m2t m2 g1) ∗ owns (c : Thread nD τ) arg22 fullShare (stepG2 x wk m1t m2t g2) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt c hbM0 fh0 ∗ hbPt c hbM1 fh1 ∗ hbPt c hbM2 fh2 ∗ hbPt c hbM3 fh3 ∗ hbPt c hbM4 fh4 ∗ hbPt c hbM5 (put1 c i hc1 fh5 (stepG1 x wk m1t m2t m2 g1)) ∗ hbPt c hbM6 (put2 c i hc1 fh6 (stepG2 x wk m1t m2t g2)) ∗ (∃ W', owes (c : Thread nD τ) 0 W')) -∗ K ⟨⟩))
      ⊢ wp frame (wpE (defs₀ (F := F)) Variants.none c none) Set.univ (cc0_ltm_gradg i arg2 harg2 (Memref.whole main_v10) (Memref.isWhole_whole _) (Memref.whole main_v12) (Memref.isWhole_whole _) (Memref.whole main_v14) (Memref.isWhole_whole _) (Memref.whole main_v15) (Memref.isWhole_whole _) (Memref.whole main_v3) (Memref.isWhole_whole _) arg8 harg8 arg9 harg9 (Memref.whole main_v16_1) (Memref.isWhole_whole _) (Memref.whole main_v16_2) (Memref.isWhole_whole _) arg12 harg12 arg13 harg13 arg14 harg14 arg15 harg15 arg16 harg16 arg17 harg17 arg18 harg18 arg19 harg19 arg20 harg20 arg21 harg21 arg22 harg22 cc0_scratch11) K := by
  simp only [cc0_ltm_gradg_eq_skeleton]; unfold cc0_ltm_gradg_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, ⟨%fs9, %hfs9, HS9⟩, ⟨%fs10, %hfs10, HS10⟩, Hq0, Hq1, Hq2, Hq3, Hq4, Hh0, Hh1, Hh2, Hh3, Hh4, Hh5, Hh6, HW, Hk⟩
  subst hf0 hf1 hf2 hfs0 hfs1 hfs2 hfs3 hfs4 hfs9 hfs10
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro
    repeat delta body_flush.sl.v1 body_flush.sl.v81 body_flush.sl.r_1 body_flush.sl.v142 body_flush.sl.Hh6_w1 body_flush.sl.H2_1 body_flush.sl.v0 body_flush.sl.v134 body_flush.sl.dma46 body_flush.sl.HS10_1 body_flush.sl.HS7_2 body_flush.sl.r body_flush.sl.r_4 body_flush.sl.HS5_2 body_flush.sl.HS6_2 body_flush.sl.v135 body_flush.sl.dma46_1 body_flush.sl.v143 body_flush.sl.r_5 body_flush.sl.r_3 body_flush.sl.r_2 body_flush.sl.HS8_2 body_flush.sl.Hh5_w0 body_flush.sl.HS9_1 body_flush.sl.v2 body_flush.sl.cst_63 body_flush.sl.cst_86
    refine (Stores.read_full _ _ _ _ _).trans ?_
    repeat rw [Stores.readAt_full]
    repeat rw [Stores.ld_full]
    repeat rw [Stores.readCov_full]
    repeat rw [Stores.canon_full]
    rfl
  isplitl [HS0]
  · iexists _; isplitr; swap; · iexact HS0
    ipureintro
    rfl
  isplitl [HS1]
  · iexists _; isplitr; swap; · iexact HS1
    ipureintro
    rfl
  isplitl [HS2]
  · iexists _; isplitr; swap; · iexact HS2
    ipureintro
    rfl
  isplitl [HS3]
  · iexists _; isplitr; swap; · iexact HS3
    ipureintro
    rfl
  isplitl [HS4]
  · iexists _; isplitr; swap; · iexact HS4
    ipureintro
    rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _; isplitr; swap; · iexact HS9
    ipureintro
    repeat delta body_flush.sl.v1 body_flush.sl.v81 body_flush.sl.r_1 body_flush.sl.v142 body_flush.sl.Hh6_w1 body_flush.sl.H2_1 body_flush.sl.v0 body_flush.sl.v134 body_flush.sl.dma46 body_flush.sl.HS10_1 body_flush.sl.HS7_2 body_flush.sl.r body_flush.sl.r_4 body_flush.sl.HS5_2 body_flush.sl.HS6_2 body_flush.sl.v135 body_flush.sl.dma46_1 body_flush.sl.v143 body_flush.sl.r_5 body_flush.sl.r_3 body_flush.sl.r_2 body_flush.sl.HS8_2 body_flush.sl.Hh5_w0 body_flush.sl.HS9_1 body_flush.sl.v2 body_flush.sl.cst_63 body_flush.sl.cst_86
    refine (Stores.read_full _ _ _ _ _).trans ?_
    repeat rw [Stores.readAt_full]
    repeat rw [Stores.ld_full]
    repeat rw [Stores.readCov_full]
    repeat rw [Stores.canon_full]
    rfl
  isplitl [HS10]
  · iexists _; isplitr; swap; · iexact HS10
    ipureintro
    repeat delta body_flush.sl.v1 body_flush.sl.v81 body_flush.sl.r_1 body_flush.sl.v142 body_flush.sl.Hh6_w1 body_flush.sl.H2_1 body_flush.sl.v0 body_flush.sl.v134 body_flush.sl.dma46 body_flush.sl.HS10_1 body_flush.sl.HS7_2 body_flush.sl.r body_flush.sl.r_4 body_flush.sl.HS5_2 body_flush.sl.HS6_2 body_flush.sl.v135 body_flush.sl.dma46_1 body_flush.sl.v143 body_flush.sl.r_5 body_flush.sl.r_3 body_flush.sl.r_2 body_flush.sl.HS8_2 body_flush.sl.Hh5_w0 body_flush.sl.HS9_1 body_flush.sl.v2 body_flush.sl.cst_63 body_flush.sl.cst_86
    refine (Stores.read_full _ _ _ _ _).trans ?_
    repeat rw [Stores.readAt_full]
    repeat rw [Stores.ld_full]
    repeat rw [Stores.readCov_full]
    repeat rw [Stores.canon_full]
    rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  repeat delta body_flush.sl.v1 body_flush.sl.v81 body_flush.sl.r_1 body_flush.sl.v142 body_flush.sl.Hh6_w1 body_flush.sl.H2_1 body_flush.sl.v0 body_flush.sl.v134 body_flush.sl.dma46 body_flush.sl.HS10_1 body_flush.sl.HS7_2 body_flush.sl.r body_flush.sl.r_4 body_flush.sl.HS5_2 body_flush.sl.HS6_2 body_flush.sl.v135 body_flush.sl.dma46_1 body_flush.sl.v143 body_flush.sl.r_5 body_flush.sl.r_3 body_flush.sl.r_2 body_flush.sl.HS8_2 body_flush.sl.Hh5_w0 body_flush.sl.HS9_1 body_flush.sl.v2 body_flush.sl.cst_63 body_flush.sl.cst_86
  repeat rw [Stores.read_full]
  repeat rw [Stores.readAt_full]
  repeat rw [Stores.ld_full]
  repeat rw [Stores.readCov_full]
  unfold put1 put2 stepG1 stepG2 dhF kaF raF aaF xT xB
  isplitl [Hh5]; · iexact Hh5
  isplitl [Hh6]; · iexact Hh6
  iexists _; iexact HW

end Cert.KernelIdeal.Grad
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp
public import proofs.«01_k».proof.Proof.Stores
public import proofs.«01_k».proof.Proof.Region0Flush

/-! The first call: both gradients and the gates' sums, one slab per core, summed over the core's sixteen blocks. -/

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ

variable (V : Dev nD → Valuation τ sig (Elt F))

/-- The call's own semaphores. -/
abbrev osem : Fin 5 → SemLoc sig := fun j => (![SemLoc.dma 5, SemLoc.dma 6, SemLoc.dma 7, SemLoc.dma 8, SemLoc.dma 9] : Fin 5 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem [0, 1, 2, 3, 4] (by decide) (by decide)]; rfl
/-- The weights the call copies itself. -/
def H : Finset (Ref sig .tc) := {main_v10, main_v12, main_v14, main_v15, main_v3}
theorem hbmPts_eq (c : Dev nD) :
    (bigSep H (fun b => ((c : Thread nD τ).loc b) ↦{fullShare} V c (Proc.devRef .tc b)) : sProp 𝕄)
      = iprop(hbPt c hbM0 (V c main_v10) ∗ hbPt c hbM1 (V c main_v12) ∗ hbPt c hbM2 (V c main_v14) ∗ hbPt c hbM3 (V c main_v15) ∗ hbPt c hbM4 (V c main_v3)) := by
  rw [BI.bigSep_eq_bigSepL_of_eq [main_v10, main_v12, main_v14, main_v15, main_v3] (by decide) (by decide)]; rfl
/-- The gradients the call writes itself. -/
def Rw : Finset (Ref sig .tc) := {main_v16_1, main_v16_2}
theorem rwPts_eq (X : Valuation τ sig (Elt F)) (c : Dev nD) :
    (bigSep Rw (fun b => ((c : Thread nD τ).loc b) ↦{fullShare} X (Proc.devRef .tc b)) : sProp 𝕄)
      = iprop(hbPt c hbM5 (X main_v16_1) ∗ hbPt c hbM6 (X main_v16_2)) := by
  rw [BI.bigSep_eq_bigSepL_of_eq [main_v16_1, main_v16_2] (by decide) (by decide)]; rfl

/-! The weights as staged. -/
def wkV (c : Dev nD) : Vec F S1024x2048 .bf16 := hbM0.view.read (Elt F) (V c main_v10)
def m1tV (c : Dev nD) : Vec F S1024x2048 .bf16 := hbM1.view.read (Elt F) (V c main_v12)
def m2tV (c : Dev nD) : Vec F S2048x1024 .bf16 := hbM2.view.read (Elt F) (V c main_v14)
def m2V (c : Dev nD) : Vec F S1024x2048 .bf16 := hbM3.view.read (Elt F) (V c main_v15)
def wgV (c : Dev nD) : Vec F S1024x3072 .fp8e4m3 := hbM4.view.read (Elt F) (V c main_v3)

/-- Point `n` of the grid (of `n` modulo the number of points). -/
def pt (n : ℕ) : Fin cfg0.N := ⟨n % 32, Nat.lt_of_lt_of_eq (Nat.mod_lt n (by decide)) N_0.symm⟩
theorem pt_val (t : Fin cfg0.N) : pt t.val = t := Fin.ext (Nat.mod_eq_of_lt (Nat.lt_of_lt_of_eq t.isLt N_0))

/-- The first gradient's sum after `n` points. -/
def g1A (c : Dev nD) : ℕ → Vec F S2048x1024 .f32
  | 0 => k0_pay3
  | n + 1 => stepG1 (blk V c 0 (pt n)) (wkV V c) (m1tV V c) (m2tV V c) (m2V V c) (if n % 16 = 0 then k0_pay3 else g1A c n)
/-- The second gradient's sum after `n` points. -/
def g2A (c : Dev nD) : ℕ → Vec F S1024x2048 .f32
  | 0 => k0_pay4
  | n + 1 => stepG2 (blk V c 0 (pt n)) (wkV V c) (m1tV V c) (m2tV V c) (if n % 16 = 0 then k0_pay4 else g2A c n)
/-- The gates' sums after `n` points. -/
def gsA (c : Dev nD) : ℕ → Vec F S1x8x3072 .f32
  | 0 => k0_pay5
  | n + 1 => stepGs (blk V c 0 (pt n)) (wgV V c) (blk V c 1 (pt n)) (if n % 16 = 0 then k0_pay5 else gsA c n)
/-- The first gradients' slabs after `n` points. -/
def w1A (c : Dev nD) : ℕ → HbBuf (F := F) c hbM5
  | 0 => V c main_v16_1
  | n + 1 => if h : cond1 (grid0.coords (pt n)) then put1 c (grid0.coords (pt n)) h (w1A c n) (g1A V c (n + 1)) else w1A c n
/-- The second gradients' slabs after `n` points. -/
def w2A (c : Dev nD) : ℕ → HbBuf (F := F) c hbM6
  | 0 => V c main_v16_2
  | n + 1 => if h : cond1 (grid0.coords (pt n)) then put2 c (grid0.coords (pt n)) h (w2A c n) (g2A V c (n + 1)) else w2A c n

theorem g1A_succ (c : Dev nD) (t : Fin cfg0.N) :
    g1A V c (t.val + 1) = stepG1 (blk V c 0 t) (wkV V c) (m1tV V c) (m2tV V c) (m2V V c) (if t.val % 16 = 0 then k0_pay3 else g1A V c t.val) := by
  show stepG1 (blk V c 0 (pt t.val)) _ _ _ _ _ = _; rw [pt_val]
theorem g2A_succ (c : Dev nD) (t : Fin cfg0.N) :
    g2A V c (t.val + 1) = stepG2 (blk V c 0 t) (wkV V c) (m1tV V c) (m2tV V c) (if t.val % 16 = 0 then k0_pay4 else g2A V c t.val) := by
  show stepG2 (blk V c 0 (pt t.val)) _ _ _ _ = _; rw [pt_val]
theorem gsA_succ (c : Dev nD) (t : Fin cfg0.N) :
    gsA V c (t.val + 1) = stepGs (blk V c 0 t) (wgV V c) (blk V c 1 t) (if t.val % 16 = 0 then k0_pay5 else gsA V c t.val) := by
  show stepGs (blk V c 0 (pt t.val)) _ (blk V c 1 (pt t.val)) _ = _; rw [pt_val]
theorem w1A_keep (c : Dev nD) (t : Fin cfg0.N) (h : ¬ cond1 (grid0.coords t)) : w1A V c (t.val + 1) = w1A V c t.val := by
  show (if h : cond1 (grid0.coords (pt t.val)) then _ else _) = _
  exact dif_neg (by rw [pt_val]; exact h)
theorem w2A_keep (c : Dev nD) (t : Fin cfg0.N) (h : ¬ cond1 (grid0.coords t)) : w2A V c (t.val + 1) = w2A V c t.val := by
  show (if h : cond1 (grid0.coords (pt t.val)) then _ else _) = _
  exact dif_neg (by rw [pt_val]; exact h)
theorem w1A_put (c : Dev nD) (t : Fin cfg0.N) (h : cond1 (grid0.coords t)) :
    w1A V c (t.val + 1) = put1 c (grid0.coords t) h (w1A V c t.val) (g1A V c (t.val + 1)) := by
  have e : ∀ s : Fin cfg0.N, s = t → (if h : cond1 (grid0.coords s) then put1 c (grid0.coords s) h (w1A V c t.val) (g1A V c (t.val + 1)) else w1A V c t.val)
      = put1 c (grid0.coords t) h (w1A V c t.val) (g1A V c (t.val + 1)) := by rintro s rfl; exact dif_pos h
  exact e _ (pt_val t)
theorem w2A_put (c : Dev nD) (t : Fin cfg0.N) (h : cond1 (grid0.coords t)) :
    w2A V c (t.val + 1) = put2 c (grid0.coords t) h (w2A V c t.val) (g2A V c (t.val + 1)) := by
  have e : ∀ s : Fin cfg0.N, s = t → (if h : cond1 (grid0.coords s) then put2 c (grid0.coords s) h (w2A V c t.val) (g2A V c (t.val + 1)) else w2A V c t.val)
      = put2 c (grid0.coords t) h (w2A V c t.val) (g2A V c (t.val + 1)) := by rintro s rfl; exact dif_pos h
  exact e _ (pt_val t)

/-- The scratch before point `n`: the weights and both sums, once there has been a point. -/
def scr (c : Dev nD) (n : ℕ) : sProp 𝕄 :=
  if n = 0 then iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d)) else iprop(owns (c : Thread nD τ) scM0 fullShare (wkV V c) ∗ owns (c : Thread nD τ) scM1 fullShare (m1tV V c) ∗ owns (c : Thread nD τ) scM2 fullShare (m2tV V c) ∗ owns (c : Thread nD τ) scM3 fullShare (m2V V c) ∗ owns (c : Thread nD τ) scM4 fullShare (wgV V c) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ owns (c : Thread nD τ) scM9 fullShare (g1A V c n) ∗ owns (c : Thread nD τ) scM10 fullShare (g2A V c n))
theorem scr_some (c : Dev nD) (n : ℕ) : scr V c n ⊢ iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d)) := by
  unfold scr
  split
  · exact .rfl
  · iintro ⟨HS0, HS1, HS2, HS3, HS4, HS5, HS6, HS7, HS8, HS9, HS10⟩
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    isplitl [HS6]; · iexact HS6
    isplitl [HS7]; · iexact HS7
    isplitl [HS8]; · iexact HS8
    isplitl [HS9]; · iexists _; iexact HS9
    iexists _; iexact HS10
theorem scr_pos (c : Dev nD) (n : ℕ) (h : n ≠ 0) : scr V c n = iprop(owns (c : Thread nD τ) scM0 fullShare (wkV V c) ∗ owns (c : Thread nD τ) scM1 fullShare (m1tV V c) ∗ owns (c : Thread nD τ) scM2 fullShare (m2tV V c) ∗ owns (c : Thread nD τ) scM3 fullShare (m2V V c) ∗ owns (c : Thread nD τ) scM4 fullShare (wgV V c) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ owns (c : Thread nD τ) scM9 fullShare (g1A V c n) ∗ owns (c : Thread nD τ) scM10 fullShare (g2A V c n)) := if_neg h

/-- What is carried between points. -/
def Phi (c : Dev nD) (n : ℕ) : sProp 𝕄 :=
  iprop(scr V c n ∗ Pipeline.scopedRestBut (Ix := Unit) (Name := ℕ) (U := Pipeline.UD sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10]
    ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt c hbM0 (V c main_v10) ∗ hbPt c hbM1 (V c main_v12) ∗ hbPt c hbM2 (V c main_v14) ∗ hbPt c hbM3 (V c main_v15) ∗ hbPt c hbM4 (V c main_v3)) ∗ hbPt c hbM5 (w1A V c n) ∗ hbPt c hbM6 (w2A V c n))

/-- The call's proof data. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => gsA V c (t.val + 1)
  Φ t := Phi V c t.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = gsA V c (t.val + 1) := by dsimp only [dat]
theorem Phi_eq (c : Dev nD) (t : Fin (cfg0.N + 1)) : (dat V c).Φ t = Phi V c t.val := by dsimp only [dat]
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (h : t.val % 16 ≠ 0) (d) : (dat V c).before 2 t d = gsA V c t.val := by
  have ht : t.val ≠ 0 := fun h0 => h (by rw [h0])
  have hlt := t.isLt
  rw [(dat V c).before_out_kept 2 rfl t ht (by
    rw [Bool.eq_false_iff]; intro hf
    have := (flush0_2 ⟨t.val - 1, by omega⟩).mp hf
    simp only at this; omega) (fun _ => rfl) (fun _ _ => rfl), after_2]
  show gsA V c (t.val - 1 + 1) = _
  rw [Nat.sub_add_cancel (by omega)]

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))
/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [Phi_eq, Phi_eq, after_0, after_1, after_2]
  unfold Phi Dat.owesAt Pipeline.owesWithin
  rw [show (dat V c).owed t.castSucc = 0 from rfl, show (dat V c).owed t.succ = 0 from rfl,
    scr_pos V c t.succ.val (by rw [Fin.val_succ]; omega)]
  rw [Fin.val_succ, Fin.val_castSucc, g1A_succ, g2A_succ, gsA_succ]
  by_cases h0 : t.val % 16 = 0
  · have h1 : ¬ t.val % 16 = 15 := by omega
    rw [if_pos h0, if_pos h0, if_pos h0, w1A_keep V c t (fun h => h1 ((hcond1 t).mp h)), w2A_keep V c t (fun h => h1 ((hcond1 t).mp h))]
    iintro ⟨⟨HS, HB, Hg, ⟨Hq0, Hq1, Hq2, Hq3, Hq4⟩, ⟨Hh0, Hh1, Hh2, Hh3, Hh4⟩, Hh5, Hh6⟩, ⟨%W, -, HW⟩, ⟨%d0, H0⟩, ⟨%d1, H1⟩, ⟨%d2, H2⟩⟩
    ihave HS' := (scr_some V c _) $$ HS
    icases HS' with ⟨HS0, HS1, HS2, HS3, HS4, HS5, HS6, HS7, HS8, HS9, HS10⟩
    iapply (body_stage c (grid0.coords t) _ _ _ _ _ _ _ _ _ _ _ _ _ _ _ _ _ _ _ _ _ _ _ _ _ _ _ _ ((hcond0 t).mpr h0) (fun h => h1 ((hcond1 t).mp h)) (blk V c 0 t) (blk V c 1 t) (wkV V c) (m1tV V c) (m2tV V c) (m2V V c) (wgV V c) (V c main_v10) (V c main_v12) (V c main_v14) (V c main_v15) (V c main_v3) (w1A V c t.val) (w2A V c t.val) rfl rfl rfl rfl rfl W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [HW]; · iexact HW
    iintro ⟨H0, H1, H2, HS0, HS1, HS2, HS3, HS4, HS5, HS6, HS7, HS8, HS9, HS10, Hq0, Hq1, Hq2, Hq3, Hq4, Hh0, Hh1, Hh2, Hh3, Hh4, Hh5, Hh6, ⟨%W', HW'⟩⟩
    isplitl [HS0 HS1 HS2 HS3 HS4 HS5 HS6 HS7 HS8 HS9 HS10 HB Hg Hq0 Hq1 Hq2 Hq3 Hq4 Hh0 Hh1 Hh2 Hh3 Hh4 Hh5 Hh6]
    · isplitl [HS0 HS1 HS2 HS3 HS4 HS5 HS6 HS7 HS8 HS9 HS10]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      isplitl [HB]; · iexact HB
      isplitl [Hg]; · iexact Hg
      isplitl [Hq0 Hq1 Hq2 Hq3 Hq4]
      · isplitl [Hq0]; · iexact Hq0
        isplitl [Hq1]; · iexact Hq1
        isplitl [Hq2]; · iexact Hq2
        isplitl [Hq3]; · iexact Hq3
        iexact Hq4
      isplitl [Hh0 Hh1 Hh2 Hh3 Hh4]
      · isplitl [Hh0]; · iexact Hh0
        isplitl [Hh1]; · iexact Hh1
        isplitl [Hh2]; · iexact Hh2
        isplitl [Hh3]; · iexact Hh3
        iexact Hh4
      isplitl [Hh5]; · iexact Hh5
      iexact Hh6
    isplitl [HW']
    · iexists W'; isplitr; · ipureintro; exact fun _ _ => Or.inl trivial
      iexact HW'
    isplitl [H0]; · iexact H0
    isplitl [H1]; · iexact H1
    iexact H2
  · simp only [before_2 V c t h0]
    rw [if_neg h0, if_neg h0, if_neg h0, scr_pos V c t.val (fun h => h0 (by rw [h]))]
    by_cases h1 : t.val % 16 = 15
    · rw [w1A_put V c t ((hcond1 t).mpr h1), w2A_put V c t ((hcond1 t).mpr h1), g1A_succ, g2A_succ, if_neg h0, if_neg h0]
      iintro ⟨⟨⟨HS0, HS1, HS2, HS3, HS4, HS5, HS6, HS7, HS8, HS9, HS10⟩, HB, Hg, ⟨Hq0, Hq1, Hq2, Hq3, Hq4⟩, ⟨Hh0, Hh1, Hh2, Hh3, Hh4⟩, Hh5, Hh6⟩, ⟨%W, -, HW⟩, ⟨%d0, H0⟩, ⟨%d1, H1⟩, ⟨%d2, H2⟩⟩
      iapply (body_flush c (grid0.coords t) _ _ _ _ _ _ _ _ _ _ _ _ _ _ _ _ _ _ _ _ _ _ _ _ _ _ _ _ (fun h => h0 ((hcond0 t).mp h)) ((hcond1 t).mpr h1) (blk V c 0 t) (blk V c 1 t) (wkV V c) (m1tV V c) (m2tV V c) (m2V V c) (wgV V c) (gsA V c t.val) (g1A V c t.val) (g2A V c t.val) (V c main_v10) (V c main_v12) (V c main_v14) (V c main_v15) (V c main_v3) (w1A V c t.val) (w2A V c t.val) W _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [HW]; · iexact HW
      iintro ⟨H0, H1, H2, HS0, HS1, HS2, HS3, HS4, HS5, HS6, HS7, HS8, HS9, HS10, Hq0, Hq1, Hq2, Hq3, Hq4, Hh0, Hh1, Hh2, Hh3, Hh4, Hh5, Hh6, ⟨%W', HW'⟩⟩
      isplitl [HS0 HS1 HS2 HS3 HS4 HS5 HS6 HS7 HS8 HS9 HS10 HB Hg Hq0 Hq1 Hq2 Hq3 Hq4 Hh0 Hh1 Hh2 Hh3 Hh4 Hh5 Hh6]
      · isplitl [HS0 HS1 HS2 HS3 HS4 HS5 HS6 HS7 HS8 HS9 HS10]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          iexact HS10
        isplitl [HB]; · iexact HB
        isplitl [Hg]; · iexact Hg
        isplitl [Hq0 Hq1 Hq2 Hq3 Hq4]
        · isplitl [Hq0]; · iexact Hq0
          isplitl [Hq1]; · iexact Hq1
          isplitl [Hq2]; · iexact Hq2
          isplitl [Hq3]; · iexact Hq3
          iexact Hq4
        isplitl [Hh0 Hh1 Hh2 Hh3 Hh4]
        · isplitl [Hh0]; · iexact Hh0
          isplitl [Hh1]; · iexact Hh1
          isplitl [Hh2]; · iexact Hh2
          isplitl [Hh3]; · iexact Hh3
          iexact Hh4
        isplitl [Hh5]; · iexact Hh5
        iexact Hh6
      isplitl [HW']
      · iexists W'; isplitr; · ipureintro; exact fun _ _ => Or.inl trivial
        iexact HW'
      isplitl [H0]; · iexact H0
      isplitl [H1]; · iexact H1
      iexact H2
    · rw [w1A_keep V c t (fun h => h1 ((hcond1 t).mp h)), w2A_keep V c t (fun h => h1 ((hcond1 t).mp h))]
      iintro ⟨⟨⟨HS0, HS1, HS2, HS3, HS4, HS5, HS6, HS7, HS8, HS9, HS10⟩, HB, Hg, ⟨Hq0, Hq1, Hq2, Hq3, Hq4⟩, ⟨Hh0, Hh1, Hh2, Hh3, Hh4⟩, Hh5, Hh6⟩, ⟨%W, -, HW⟩, ⟨%d0, H0⟩, ⟨%d1, H1⟩, ⟨%d2, H2⟩⟩
      iapply (body_keep c (grid0.coords t) _ _ _ _ _ _ _ _ _ _ _ _ _ _ _ _ _ _ _ _ _ _ _ _ _ _ _ _ (fun h => h0 ((hcond0 t).mp h)) (fun h => h1 ((hcond1 t).mp h)) (blk V c 0 t) (blk V c 1 t) (wkV V c) (m1tV V c) (m2tV V c) (m2V V c) (wgV V c) (gsA V c t.val) (g1A V c t.val) (g2A V c t.val) (V c main_v10) (V c main_v12) (V c main_v14) (V c main_v15) (V c main_v3) (w1A V c t.val) (w2A V c t.val) W _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [HW]; · iexact HW
      iintro ⟨H0, H1, H2, HS0, HS1, HS2, HS3, HS4, HS5, HS6, HS7, HS8, HS9, HS10, Hq0, Hq1, Hq2, Hq3, Hq4, Hh0, Hh1, Hh2, Hh3, Hh4, Hh5, Hh6, ⟨%W', HW'⟩⟩
      isplitl [HS0 HS1 HS2 HS3 HS4 HS5 HS6 HS7 HS8 HS9 HS10 HB Hg Hq0 Hq1 Hq2 Hq3 Hq4 Hh0 Hh1 Hh2 Hh3 Hh4 Hh5 Hh6]
      · isplitl [HS0 HS1 HS2 HS3 HS4 HS5 HS6 HS7 HS8 HS9 HS10]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          iexact HS10
        isplitl [HB]; · iexact HB
        isplitl [Hg]; · iexact Hg
        isplitl [Hq0 Hq1 Hq2 Hq3 Hq4]
        · isplitl [Hq0]; · iexact Hq0
          isplitl [Hq1]; · iexact Hq1
          isplitl [Hq2]; · iexact Hq2
          isplitl [Hq3]; · iexact Hq3
          iexact Hq4
        isplitl [Hh0 Hh1 Hh2 Hh3 Hh4]
        · isplitl [Hh0]; · iexact Hh0
          isplitl [Hh1]; · iexact Hh1
          isplitl [Hh2]; · iexact Hh2
          isplitl [Hh3]; · iexact Hh3
          iexact Hh4
        isplitl [Hh5]; · iexact Hh5
        iexact Hh6
      isplitl [HW']
      · iexists W'; isplitr; · ipureintro; exact fun _ _ => Or.inl trivial
        iexact HW'
      isplitl [H0]; · iexact H0
      isplitl [H1]; · iexact H1
      iexact H2

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The call is entered from its scratch at any contents, the weights and the gradients' arrays in memory. -/
theorem hin (c : Dev nD) :
    iprop(Pipeline.scopedRest spec0 c ∗ (∃ r, prngReg c r) ∗ Pipeline.ownSems0 osem c
      ∗ (bigSep H fun b => ((c.tc : Thread nD τ).loc b) ↦{fullShare} V c (Proc.devRef .tc b))
      ∗ (bigSep Rw fun b => ((c.tc : Thread nD τ).loc b) ↦{fullShare} V c (Proc.devRef .tc b))
      ∗ Transfers.MayWaits (c : Thread nD τ) () 0) ⊢ ((dat V c).Φ 0 : sProp 𝕄) := by
  rw [Phi_eq]; unfold Phi scr
  rw [scopedRest0_split, ownSems_eq, hbmPts_eq, rwPts_eq, if_pos (show (0 : Fin (cfg0.N + 1)).val = 0 from rfl)]
  simp only [scM0, scM1, scM2, scM3, scM4, scM5, scM6, scM7, scM8, scM9, scM10, owns_whole]
  iintro ⟨⟨HS, HB⟩, Hg, Hq, Hh, ⟨Hw1, Hw2⟩, -⟩
  isplitl [HS]; · iexact HS
  isplitl [HB]; · iexact HB
  isplitl [Hg]; · iexact Hg
  isplitl [Hq]; · iexact Hq
  isplitl [Hh]; · iexact Hh
  isplitl [Hw1]; · iexact Hw1
  iexact Hw2

theorem hout (V' : Dev nD → Valuation τ sig (Elt F)) (c : Dev nD) (e1 : V' c main_v16_1 = w1A V c 32) (e2 : V' c main_v16_2 = w2A V c 32) :
    ((dat V c).Φ (Fin.last cfg0.N) : sProp 𝕄) ⊢ iprop(Pipeline.scopedRest spec0 c ∗ (∃ r, prngReg c r) ∗ Pipeline.ownSems0 osem c
      ∗ (bigSep H fun b => ((c.tc : Thread nD τ).loc b) ↦{fullShare} V c (Proc.devRef .tc b))
      ∗ (bigSep Rw fun b => ((c.tc : Thread nD τ).loc b) ↦{fullShare} V' c (Proc.devRef .tc b))) := by
  rw [Phi_eq]; unfold Phi
  rw [scopedRest0_split, ownSems_eq, hbmPts_eq, rwPts_eq, e1, e2, show (Fin.last cfg0.N).val = 32 from N_0]
  iintro ⟨HS, HB, Hg, Hq, Hh, Hw1, Hw2⟩
  ihave HS' := (scr_some V c _) $$ HS
  simp only [scM0, scM1, scM2, scM3, scM4, scM5, scM6, scM7, scM8, scM9, scM10, owns_whole]
  isplitl [HS' HB]
  · isplitl [HS']; · iexact HS'
    iexact HB
  isplitl [Hg]; · iexact Hg
  isplitl [Hq]; · iexact Hq
  isplitl [Hh]; · iexact Hh
  isplitl [Hw1]; · iexact Hw1
  iexact Hw2

end Cert.KernelIdeal.Grad
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

/-! The second call: the new matrices from the gate sums and the two cores' gradient parts. -/

@[expose] public section

set_option maxRecDepth 16384

noncomputable section

namespace Cert.KernelIdeal.Upd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ

variable (V : Dev nD → Valuation τ sig (Elt F))

/-- Window `w`'s block at point `t`, of its array at the call's entry. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rG : Rect S2x8x3072 := Rect.unit (s := S2x8x3072) ![0, 0, 0] S2x8x3072.size inb_S2x8x3072_S2x8x3072_0_0_0
abbrev rA : Rect S256x1024 := Rect.unit (s := S256x1024) ![0, 0] S256x1024.size inb_S256x1024_S256x1024_0_0
abbrev rA3 : Rect S1x256x1024 := Rect.unit (s := S1x256x1024) ![0, 0, 0] S1x256x1024.size inb_S1x256x1024_S1x256x1024_0_0_0
abbrev rB : Rect S128x2048 := Rect.unit (s := S128x2048) ![0, 0] S128x2048.size inb_S128x2048_S128x2048_0_0
abbrev rB3 : Rect S1x128x2048 := Rect.unit (s := S1x128x2048) ![0, 0, 0] S1x128x2048.size inb_S1x128x2048_S1x128x2048_0_0_0

/-- The new rows of the first matrix, from the windows' blocks. -/
def out9 (x0 : Vec F S2x8x3072 .f32) (x1 : Vec F S256x1024 .f32) (x2 : Vec F S256x1024 .f32) (x3 : Vec F S1x256x1024 .f32) (x4 : Vec F S1x256x1024 .f32) (x5 : Vec F S128x2048 .f32) (x6 : Vec F S128x2048 .f32) (x7 : Vec F S1x128x2048 .f32) (x8 : Vec F S1x128x2048 .f32) : Vec F S256x1024 .bf16 :=
  View.canon [⟨rA, k1_pay1 (k1_pay5 (View.ld x0 rG)) (k1_pay7 (View.ld x0 rG) (View.ld x1 rA) (View.ld x2 rA)) (k1_pay8 (View.ld x3 rA3)) (View.ld x4 rA3)⟩]
/-- The new rows of the second matrix, from the windows' blocks. -/
def out10 (x0 : Vec F S2x8x3072 .f32) (x1 : Vec F S256x1024 .f32) (x2 : Vec F S256x1024 .f32) (x3 : Vec F S1x256x1024 .f32) (x4 : Vec F S1x256x1024 .f32) (x5 : Vec F S128x2048 .f32) (x6 : Vec F S128x2048 .f32) (x7 : Vec F S1x128x2048 .f32) (x8 : Vec F S1x128x2048 .f32) : Vec F S128x2048 .bf16 :=
  View.canon [⟨rB, k1_pay2 (k1_pay4 (View.ld x0 rG)) (k1_pay5 (View.ld x0 rG)) (k1_pay6 (View.ld x0 rG)) (View.ld x5 rB) (View.ld x6 rB) (View.ld x7 rB3) (View.ld x8 rB3)⟩]

theorem cover9 (p : Vec F S256x1024 .bf16) (y : S256x1024.Idx) :
    ∃ pc ∈ ([⟨rA, p⟩] : List (View.Piece (Elt F) S256x1024 .bf16)), y ∈ pc.1.set :=
  View.cover_of_tiled [⟨rA, p⟩] S256x1024.size (by rfl) y
theorem cover10 (p : Vec F S128x2048 .bf16) (y : S128x2048.Idx) :
    ∃ pc ∈ ([⟨rB, p⟩] : List (View.Piece (Elt F) S128x2048 .bf16)), y ∈ pc.1.set :=
  View.cover_of_tiled [⟨rB, p⟩] S128x2048.size (by rfl) y

set_option maxHeartbeats 1000000 in
/-- The body on whole staging buffers leaves the inputs and writes both outputs from them. -/
theorem body_triple (c : Dev nD) (E : Set ℕ) (i : grid1.Coords) (arg1 : Memref sig .tc .vmem S2x8x3072 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S256x1024 .bf16) (harg10 : arg10.IsWhole) (arg11 : Memref sig .tc .vmem S128x2048 .bf16) (harg11 : arg11.IsWhole)
    (x0 : Vec F S2x8x3072 .f32) (x1 : Vec F S256x1024 .f32) (x2 : Vec F S256x1024 .f32) (x3 : Vec F S1x256x1024 .f32) (x4 : Vec F S1x256x1024 .f32) (x5 : Vec F S128x2048 .f32) (x6 : Vec F S128x2048 .f32) (x7 : Vec F S1x128x2048 .f32) (x8 : Vec F S1x128x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8) ∗ owns (c : Thread nD τ) arg11 fullShare (out10 x0 x1 x2 x3 x4 x5 x6 x7 x8)) -∗ K ⟨⟩))
      ⊢ wp frame (wpE (defs₀ (F := F)) Variants.none c none) E (cc1_ltm_update i arg1 harg1 arg2 harg2 arg3 harg3 arg4 harg4 arg5 harg5 arg6 harg6 arg7 harg7 arg8 harg8 arg9 harg9 arg10 harg10 arg11 harg11) K := by
  simp only [cc1_ltm_update_eq_skeleton]; unfold cc1_ltm_update_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover9 _)
  iexists _; isplitr
  swap; · iexact H10
  ipureintro
  exact View.read_writes_eq_canon _ _ _ (cover10 _)

/-- The call's proof data: each input at its block, each output at what the body writes, nothing carried between points. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => out9 (blk V c 0 t) (blk V c 1 t) (blk V c 2 t) (blk V c 3 t) (blk V c 4 t) (blk V c 5 t) (blk V c 6 t) (blk V c 7 t) (blk V c 8 t)
    | ⟨10, _⟩ => out10 (blk V c 0 t) (blk V c 1 t) (blk V c 2 t) (blk V c 3 t) (blk V c 4 t) (blk V c 5 t) (blk V c 6 t) (blk V c 7 t) (blk V c 8 t)
  Φ _ := Pipeline.ΦA spec1 c
  q w := Pipeline.shareOf spec1 w
  owed _ := 0

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = blk V c 8 t := by dsimp only [dat]
theorem after_9 (c : Dev nD) (t : Fin cfg1.N) : (dat V c).after 9 t = out9 (blk V c 0 t) (blk V c 1 t) (blk V c 2 t) (blk V c 3 t) (blk V c 4 t) (blk V c 5 t) (blk V c 6 t) (blk V c 7 t) (blk V c 8 t) := by dsimp only [dat]
theorem after_10 (c : Dev nD) (t : Fin cfg1.N) : (dat V c).after 10 t = out10 (blk V c 0 t) (blk V c 1 t) (blk V c 2 t) (blk V c 3 t) (blk V c 4 t) (blk V c 5 t) (blk V c 6 t) (blk V c 7 t) (blk V c 8 t) := by dsimp only [dat]
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)
theorem before_7 (c : Dev nD) (t : Fin cfg1.N) (d) : (dat V c).before 7 t d = blk V c 7 t :=
  ((dat V c).before_in_eq_fetched 7 rfl (fun _ => rfl) (fun _ _ _ => rfl) (fun t => by rw [after_7]; unfold Dat.blockOf blk; rw [A_eq]; try rfl) t d).trans
    (by unfold Dat.fetched Dat.blockOf blk; rw [A_eq]; try rfl)
theorem before_8 (c : Dev nD) (t : Fin cfg1.N) (d) : (dat V c).before 8 t d = blk V c 8 t :=
  ((dat V c).before_in_eq_fetched 8 rfl (fun _ => rfl) (fun _ _ _ => rfl) (fun t => by rw [after_8]; unfold Dat.blockOf blk; rw [A_eq]; try rfl) t d).trans
    (by unfold Dat.fetched Dat.blockOf blk; rw [A_eq]; try rfl)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d)))
/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ (grid1.coords t) _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Upd
-- ==== Proof.Region2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysD
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp
public import proofs.«01_k».proof.Proof.Stores

/-! The third call: the retrieval through the new matrices, staged into scratch at each core's first point. -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ

variable (V : Dev nD → Valuation τ sig (Elt F))

/-- Window `w`'s block at point `t`, of its array at the call's entry. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body stages the matrices exactly at the points that are 0 modulo 8. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 8 = 0 :=
  (fun t => by
    have ht : t.val < 16 := Nat.lt_of_lt_of_eq t.isLt N_2
    have e0 : (grid2.coords t 0).val = t.val / 8 % 2 := Pipeline.Grid.coords_val t 0 (by decide) rfl
    have e1 : (grid2.coords t 1).val = t.val / 1 % 8 := Pipeline.Grid.coords_val t 1 (by decide) rfl
    simp only [cond0, e0, e1]
    word_cmp
   : ∀ t : Fin grid2.N, cond0 (grid2.coords t) ↔ t.val % 8 = 0)

abbrev scM0 : Memref sig .tc .vmem S2048x1024 .bf16 := Memref.whole cc2_scratch0
abbrev scM1 : Memref sig .tc .vmem S1024x2048 .bf16 := Memref.whole cc2_scratch1
abbrev hbM0 : Memref sig .tc .hbm S2048x1024 .bf16 := Memref.whole main_v17_0
abbrev hbM1 : Memref sig .tc .hbm S1024x2048 .bf16 := Memref.whole main_v17_1
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev rT : Rect S1024x1024 := Rect.unit (s := S1024x1024) ![0, 0] S512x1024.size inb_S1024x1024_S512x1024_0_0
abbrev rL : Rect S1024x1024 := Rect.unit (s := S1024x1024) ![512, 0] S512x1024.size inb_S1024x1024_S512x1024_512_0
abbrev rQ : Rect S1024x1024 := Rect.unit (s := S1024x1024) ![0, 0] S1024x1024.size inb_S1024x1024_S1024x1024_0_0
abbrev rM1 : Rect S2048x1024 := Rect.unit (s := S2048x1024) ![0, 0] S2048x1024.size inb_S2048x1024_S2048x1024_0_0
abbrev rM2 : Rect S1024x2048 := Rect.unit (s := S1024x2048) ![0, 0] S1024x2048.size inb_S1024x2048_S1024x2048_0_0

/-- The output block, from the input blocks and the staged matrices: the two halves of its rows. -/
def out3 (x0 : Vec F S1024x1024 .f32) (x1 : Vec F S1024x1024 .bf16) (x2 : Vec F S1024x1024 .bf16) (w1 : Vec F S2048x1024 .bf16) (w2 : Vec F S1024x2048 .bf16) : Vec F S1024x1024 .f32 :=
  View.canon [⟨rL, k2_pay1 (k2_pay3 (View.ld x0 rL)) (View.ld x1 rQ) (View.ld w1 rM1) (View.ld w2 rM2) (View.ld x2 rQ)⟩,
    ⟨rT, k2_pay2 (View.ld x0 rT) (View.ld x1 rQ) (View.ld w1 rM1) (View.ld w2 rM2) (View.ld x2 rQ)⟩]

theorem cover3 (p q : Vec F S512x1024 .f32) (y : S1024x1024.Idx) :
    ∃ pc ∈ ([⟨rL, p⟩, ⟨rT, q⟩] : List (View.Piece (Elt F) S1024x1024 .f32)), y ∈ pc.1.set :=
  View.cover_of_tiled [⟨rL, p⟩, ⟨rT, q⟩] S512x1024.size (by rfl) y

set_option maxHeartbeats 1000000 in
/-- The body at a staging point: the scratch ends at the matrices it copied. -/
theorem body_stage (c : Dev nD) (i : grid2.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg7 : Memref sig .tc .vmem S1024x1024 .f32) (harg7 : arg7.IsWhole) (arg8 : Memref sig .tc .vmem S2048x1024 .bf16) (harg8 : arg8.IsWhole) (arg9 : Memref sig .tc .vmem S1024x2048 .bf16) (harg9 : arg9.IsWhole) (hc0 : cond0 i)
    (x0 : Vec F S1024x1024 .f32) (x1 : Vec F S1024x1024 .bf16) (x2 : Vec F S1024x1024 .bf16) (w1 : Vec F S2048x1024 .bf16) (w2 : Vec F S1024x2048 .bf16) (fh0 : HbBuf (F := F) c hbM0) (fh1 : HbBuf (F := F) c hbM1) (e0 : hbM0.view.read (Elt F) fh0 = w1) (e1 : hbM1.view.read (Elt F) fh1 = w2) (W : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 37) 0 ∗ semVal ((c : Thread nD τ), SemLoc.dma 38) 0 ∗ hbPt c hbM0 fh0 ∗ hbPt c hbM1 fh1 ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg7 fullShare (out3 x0 x1 x2 w1 w2) ∗ owns (c : Thread nD τ) arg8 fullShare w1 ∗ owns (c : Thread nD τ) arg9 fullShare w2 ∗ semVal ((c : Thread nD τ), SemLoc.dma 37) 0 ∗ semVal ((c : Thread nD τ), SemLoc.dma 38) 0 ∗ hbPt c hbM0 fh0 ∗ hbPt c hbM1 fh1 ∗ (∃ W', owes (c : Thread nD τ) 0 W')) -∗ K ⟨⟩))
      ⊢ wp frame (wpE (defs₀ (F := F)) Variants.none c none) Set.univ (cc2_ltm_retrieve i arg2 harg2 arg3 harg3 arg4 harg4 (Memref.whole main_v17_0) (Memref.isWhole_whole _) (Memref.whole main_v17_1) (Memref.isWhole_whole _) arg7 harg7 arg8 harg8 arg9 harg9 cc2_scratch2) K := by
  simp only [cc2_ltm_retrieve_eq_skeleton]; unfold cc2_ltm_retrieve_skel
  simp only [k2_part1_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hq0, Hq1, Hh0, Hh1, HW, Hk⟩
  subst hf0 hf1 hf2
  subst e0 e1
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    refine (View.read_writes_eq_canon _ _ _ (cover3 _ _)).trans ?_
    unfold body_stage.sl.v10 body_stage.sl.v21 body_stage.sl.v35 body_stage.sl.v46
    rw [Stores.readCov_whole, Stores.readCov_whole]
    rfl
  isplitl [HS0]
  · iexists _; isplitr; swap; · iexact HS0
    ipureintro
    exact Stores.read_whole _ _ _ _
  isplitl [HS1]
  · iexists _; isplitr; swap; · iexact HS1
    ipureintro
    exact Stores.read_whole _ _ _ _
  isplitl [Hq0]; · iexact Hq0
  isplitl [Hq1]; · iexact Hq1
  isplitl [Hh0]; · iexact Hh0
  isplitl [Hh1]; · iexact Hh1
  iexists _; iexact HW

set_option maxHeartbeats 1000000 in
/-- The body at every other point: the scratch keeps the matrices. -/
theorem body_keep (c : Dev nD) (i : grid2.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg7 : Memref sig .tc .vmem S1024x1024 .f32) (harg7 : arg7.IsWhole) (arg8 : Memref sig .tc .vmem S2048x1024 .bf16) (harg8 : arg8.IsWhole) (arg9 : Memref sig .tc .vmem S1024x2048 .bf16) (harg9 : arg9.IsWhole) (hc0 : ¬ cond0 i)
    (x0 : Vec F S1024x1024 .f32) (x1 : Vec F S1024x1024 .bf16) (x2 : Vec F S1024x1024 .bf16) (w1 : Vec F S2048x1024 .bf16) (w2 : Vec F S1024x2048 .bf16) (fh0 : HbBuf (F := F) c hbM0) (fh1 : HbBuf (F := F) c hbM1) (W : Waits sig Unit) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg7 fullShare d) ∗ owns (c : Thread nD τ) arg8 fullShare w1 ∗ owns (c : Thread nD τ) arg9 fullShare w2 ∗ semVal ((c : Thread nD τ), SemLoc.dma 37) 0 ∗ semVal ((c : Thread nD τ), SemLoc.dma 38) 0 ∗ hbPt c hbM0 fh0 ∗ hbPt c hbM1 fh1 ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg7 fullShare (out3 x0 x1 x2 w1 w2) ∗ owns (c : Thread nD τ) arg8 fullShare w1 ∗ owns (c : Thread nD τ) arg9 fullShare w2 ∗ semVal ((c : Thread nD τ), SemLoc.dma 37) 0 ∗ semVal ((c : Thread nD τ), SemLoc.dma 38) 0 ∗ hbPt c hbM0 fh0 ∗ hbPt c hbM1 fh1 ∗ (∃ W', owes (c : Thread nD τ) 0 W')) -∗ K ⟨⟩))
      ⊢ wp frame (wpE (defs₀ (F := F)) Variants.none c none) Set.univ (cc2_ltm_retrieve i arg2 harg2 arg3 harg3 arg4 harg4 (Memref.whole main_v17_0) (Memref.isWhole_whole _) (Memref.whole main_v17_1) (Memref.isWhole_whole _) arg7 harg7 arg8 harg8 arg9 harg9 cc2_scratch2) K := by
  simp only [cc2_ltm_retrieve_eq_skeleton]; unfold cc2_ltm_retrieve_skel
  simp only [k2_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hq0, Hq1, Hh0, Hh1, HW, Hk⟩
  subst hf0 hf1 hf2
  subst hs0 hs1
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; swap; · iexact H3
    ipureintro
    exact View.read_writes_eq_canon _ _ _ (cover3 _ _)
  isplitl [HS0]
  · iexists _; isplitr; swap; · iexact HS0
    ipureintro
    rfl
  isplitl [HS1]
  · iexists _; isplitr; swap; · iexact HS1
    ipureintro
    rfl
  isplitl [Hq0]; · iexact Hq0
  isplitl [Hq1]; · iexact Hq1
  isplitl [Hh0]; · iexact Hh0
  isplitl [Hh1]; · iexact Hh1
  iexists _; iexact HW

/-- The call's own semaphores. -/
abbrev osem : Fin 2 → SemLoc sig := fun j => (![SemLoc.dma 37, SemLoc.dma 38] : Fin 2 → SemLoc sig) j
theorem ownSemFacts : Pipeline.OwnSemFacts spec2 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 37) 0 ∗ semVal ((c : Thread nD τ), SemLoc.dma 38) 0) := by
  rw [Pipeline.ownSems0_eq_of_list c osem [0, 1] (by decide) (by decide)]; rfl
/-- The two matrices the call copies itself. -/
def H : Finset (Ref sig .tc) := {main_v17_0, main_v17_1}
theorem hbmPts_eq (c : Dev nD) :
    (bigSep H (fun b => ((c : Thread nD τ).loc b) ↦{fullShare} V c (Proc.devRef .tc b)) : sProp 𝕄)
      = iprop(hbPt c hbM0 (V c main_v17_0) ∗ hbPt c hbM1 (V c main_v17_1)) := by
  rw [BI.bigSep_eq_bigSepL_of_eq [main_v17_0, main_v17_1] (by decide) (by decide)]; rfl

/-- The matrices as staged. -/
def w1 (c : Dev nD) : Vec F S2048x1024 .bf16 := hbM0.view.read (Elt F) (V c main_v17_0)
def w2 (c : Dev nD) : Vec F S1024x2048 .bf16 := hbM1.view.read (Elt F) (V c main_v17_1)

/-- The scratch before point `n`: the matrices, once staged. -/
def scr (c : Dev nD) (n : ℕ) : sProp 𝕄 :=
  if n = 0 then iprop((∃ d, owns (c : Thread nD τ) scM0 fullShare d) ∗ (∃ d, owns (c : Thread nD τ) scM1 fullShare d))
  else iprop(owns (c : Thread nD τ) scM0 fullShare (w1 V c) ∗ owns (c : Thread nD τ) scM1 fullShare (w2 V c))
theorem scr_some (c : Dev nD) (n : ℕ) :
    scr V c n ⊢ iprop((∃ d, owns (c : Thread nD τ) scM0 fullShare d) ∗ (∃ d, owns (c : Thread nD τ) scM1 fullShare d)) := by
  unfold scr
  split
  · exact .rfl
  · iintro ⟨H0, H1⟩
    isplitl [H0]; · iexists _; iexact H0
    iexists _; iexact H1
theorem scr_pos (c : Dev nD) (n : ℕ) (h : n ≠ 0) :
    scr V c n = iprop(owns (c : Thread nD τ) scM0 fullShare (w1 V c) ∗ owns (c : Thread nD τ) scM1 fullShare (w2 V c)) := if_neg h

/-- What is carried between points: the scratch, the generator, the idle semaphores, the matrices in memory. -/
def Phi (c : Dev nD) (n : ℕ) : sProp 𝕄 :=
  iprop(scr V c n ∗ Pipeline.scopedRestBut (Ix := Unit) (Name := ℕ) (U := Pipeline.UD sig nD τ) (Lvl := ℕ) (Val := Elt F) spec2 c [cc2_scratch0, cc2_scratch1]
    ∗ (∃ r, prngReg c r) ∗ iprop(semVal ((c : Thread nD τ), SemLoc.dma 37) 0 ∗ semVal ((c : Thread nD τ), SemLoc.dma 38) 0)
    ∗ iprop(hbPt c hbM0 (V c main_v17_0) ∗ hbPt c hbM1 (V c main_v17_1)))

/-- The call's proof data. -/
def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => out3 (blk V c 0 t) (blk V c 1 t) (blk V c 2 t) (w1 V c) (w2 V c)
  Φ t := Phi V c t.val
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = out3 (blk V c 0 t) (blk V c 1 t) (blk V c 2 t) (w1 V c) (w2 V c) := by dsimp only [dat]
theorem Phi_eq (c : Dev nD) (t : Fin (cfg2.N + 1)) : (dat V c).Φ t = Phi V c t.val := by dsimp only [dat]
theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))
/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [Phi_eq, Phi_eq, after_0, after_1, after_2, after_3]
  unfold Phi Dat.owesAt Pipeline.owesWithin
  rw [show (dat V c).owed t.castSucc = 0 from rfl, show (dat V c).owed t.succ = 0 from rfl,
    scr_pos V c t.succ.val (by rw [Fin.val_succ]; omega)]
  by_cases h0 : t.val % 8 = 0
  · iintro ⟨⟨HS, HB, Hg, ⟨Hq0, Hq1⟩, ⟨Hh0, Hh1⟩⟩, ⟨%W, -, HW⟩, ⟨%d0, H0⟩, ⟨%d1, H1⟩, ⟨%d2, H2⟩, ⟨%d3, H3⟩⟩
    ihave HS' := (scr_some V c _) $$ HS
    icases HS' with ⟨HS0, HS1⟩
    iapply (body_stage c (grid2.coords t) _ _ _ _ _ _ _ _ _ _ _ _ ((hcond0 t).mpr h0) (blk V c 0 t) (blk V c 1 t) (blk V c 2 t) (w1 V c) (w2 V c) (V c main_v17_0) (V c main_v17_1) rfl rfl W _)
    isplitl [H0]; · iexact H0
    isplitl [H1]; · iexact H1
    isplitl [H2]; · iexact H2
    isplitl [H3]; · iexists _; iexact H3
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨H0, H1, H2, H3, HS0, HS1, Hq0, Hq1, Hh0, Hh1, ⟨%W', HW'⟩⟩
    isplitl [HS0 HS1 HB Hg Hq0 Hq1 Hh0 Hh1]
    · isplitl [HS0 HS1]
      · isplitl [HS0]; · iexact HS0
        iexact HS1
      isplitl [HB]; · iexact HB
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · rw [scr_pos V c t.castSucc.val (by intro h; rw [Fin.val_castSucc] at h; omega)]
    iintro ⟨⟨⟨HS0, HS1⟩, HB, Hg, ⟨Hq0, Hq1⟩, ⟨Hh0, Hh1⟩⟩, ⟨%W, -, HW⟩, ⟨%d0, H0⟩, ⟨%d1, H1⟩, ⟨%d2, H2⟩, ⟨%d3, H3⟩⟩
    iapply (body_keep c (grid2.coords t) _ _ _ _ _ _ _ _ _ _ _ _ (fun h => h0 ((hcond0 t).mp h)) (blk V c 0 t) (blk V c 1 t) (blk V c 2 t) (w1 V c) (w2 V c) (V c main_v17_0) (V c main_v17_1) W _)
    isplitl [H0]; · iexact H0
    isplitl [H1]; · iexact H1
    isplitl [H2]; · iexact H2
    isplitl [H3]; · iexists _; iexact H3
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨H0, H1, H2, H3, HS0, HS1, Hq0, Hq1, Hh0, Hh1, ⟨%W', HW'⟩⟩
    isplitl [HS0 HS1 HB Hg Hq0 Hq1 Hh0 Hh1]
    · isplitl [HS0 HS1]
      · isplitl [HS0]; · iexact HS0
        iexact HS1
      isplitl [HB]; · iexact HB
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- The call is entered from its scratch at any contents, and the matrices in memory. -/
theorem hin (c : Dev nD) :
    iprop(Pipeline.scopedRest spec2 c ∗ (∃ r, prngReg c r) ∗ Pipeline.ownSems0 osem c
      ∗ (bigSep H fun b => ((c.tc : Thread nD τ).loc b) ↦{fullShare} V c (Proc.devRef .tc b))
      ∗ Transfers.MayWaits (c : Thread nD τ) () 0) ⊢ ((dat V c).Φ 0 : sProp 𝕄) := by
  rw [Phi_eq]; unfold Phi scr
  rw [scopedRest2_split, ownSems_eq, hbmPts_eq, if_pos (show (0 : Fin (cfg2.N + 1)).val = 0 from rfl)]
  simp only [scM0, scM1, owns_whole]
  iintro ⟨⟨HS, HB⟩, Hg, Hq, Hh, -⟩
  isplitl [HS]; · iexact HS
  isplitl [HB]; · iexact HB
  isplitl [Hg]; · iexact Hg
  isplitl [Hq]; · iexact Hq
  iexact Hh

theorem hout (c : Dev nD) :
    ((dat V c).Φ (Fin.last cfg2.N) : sProp 𝕄) ⊢ iprop(Pipeline.scopedRest spec2 c ∗ (∃ r, prngReg c r) ∗ Pipeline.ownSems0 osem c
      ∗ (bigSep H fun b => ((c.tc : Thread nD τ).loc b) ↦{fullShare} V c (Proc.devRef .tc b))) := by
  rw [Phi_eq]; unfold Phi
  rw [scopedRest2_split, ownSems_eq, hbmPts_eq]
  iintro ⟨HS, HB, Hg, Hq, Hh⟩
  ihave HS' := (scr_some V c _) $$ HS
  simp only [scM0, scM1, owns_whole]
  isplitl [HS' HB]
  · isplitl [HS']; · iexact HS'
    iexact HB
  isplitl [Hg]; · iexact Hg
  isplitl [Hq]; · iexact Hq
  iexact Hh

end Cert.KernelIdeal.Ret
-- ==== Proof.Run.lean ====
module

public import proofs.«01_k».proof.Proof.Region0
public import proofs.«01_k».proof.Proof.Region1
public import proofs.«01_k».proof.Proof.Region2

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)

variable {F : FTy → Type} [FloatOps F]

local notation "𝕄" => MT nD τ sig Unit (Elt F) ℕ (Pipeline.UD sig nD τ) ℕ

variable (m : (ℓ : Loc nD τ sig) → Buf (Elt F) ℓ)

/-! ## The buffers between the program's items -/

/-- After the host's preparation. -/
def X1 (c : Dev nD) : Valuation τ sig (Elt F) := StableHlo.after hostOps0 (V0 m c)
/-- After the first call: the gates' sums, and the two gradients' sums by slab. -/
def X2 (c : Dev nD) : Valuation τ sig (Elt F) :=
  Function.update (Function.update (Function.update (X1 m c) main_v16_0 ((Grad.dat (X1 m) c).arrAt 2 cfg0.N))
    main_v16_1 (Grad.w1A (X1 m) c 32)) main_v16_2 (Grad.w2A (X1 m) c 32)
/-- After the second call: the two updated matrices. -/
def X3 (c : Dev nD) : Valuation τ sig (Elt F) :=
  Function.update (Function.update (X2 m c) main_v17_0 ((Upd.dat (X2 m) c).arrAt 9 cfg1.N)) main_v17_1 ((Upd.dat (X2 m) c).arrAt 10 cfg1.N)
/-- After the host's casts. -/
def X4 (c : Dev nD) : Valuation τ sig (Elt F) := StableHlo.after hostOps2 (X3 m c)
/-- After the third call: the rows retrieved. -/
def X5 (c : Dev nD) : Valuation τ sig (Elt F) := Function.update (X4 m c) main_v20 ((Ret.dat (X4 m) c).arrAt 3 cfg2.N)
/-- At the end. -/
def X6 (c : Dev nD) : Valuation τ sig (Elt F) := StableHlo.after hostOps3 (X5 m c)

theorem X1_of (c : Dev nD) (r : Ref sig .tc) (h : r ∉ hostOps0_W) : X1 m c r = m ((c : Thread nD τ).loc r) :=
  StableHlo.after_of_writes_sub hostOps0 _ hostOps0_writes h
theorem X2_of (c : Dev nD) (r : Ref sig .tc) (h : r ∉ ([main_v16_0, main_v16_1, main_v16_2] : List (Ref sig .tc))) : X2 m c r = X1 m c r := by
  simp only [List.mem_cons, List.not_mem_nil, or_false, not_or] at h
  unfold X2
  rw [Function.update_of_ne (StableHlo.devRef_ne_of_ne h.2.2), Function.update_of_ne (StableHlo.devRef_ne_of_ne h.2.1), Function.update_of_ne (StableHlo.devRef_ne_of_ne h.1)]
theorem X3_of (c : Dev nD) (r : Ref sig .tc) (h : r ∉ ([main_v17_0, main_v17_1] : List (Ref sig .tc))) : X3 m c r = X2 m c r := by
  simp only [List.mem_cons, List.not_mem_nil, or_false, not_or] at h
  unfold X3
  rw [Function.update_of_ne (StableHlo.devRef_ne_of_ne h.2), Function.update_of_ne (StableHlo.devRef_ne_of_ne h.1)]
theorem X4_of (c : Dev nD) (r : Ref sig .tc) (h : r ∉ hostOps2_W) : X4 m c r = X3 m c r :=
  StableHlo.after_of_writes_sub hostOps2 _ hostOps2_writes h
theorem X5_of (c : Dev nD) (r : Ref sig .tc) (h : r ≠ main_v20) : X5 m c r = X4 m c r := by
  unfold X5
  rw [Function.update_of_ne (StableHlo.devRef_ne_of_ne h)]
theorem X6_of (c : Dev nD) (r : Ref sig .tc) (h : r ∉ hostOps3_W) : X6 m c r = X5 m c r :=
  StableHlo.after_of_writes_sub hostOps3 _ hostOps3_writes h

theorem X2_v16_0 (c : Dev nD) : X2 m c main_v16_0 = (Grad.dat (X1 m) c).arrAt 2 cfg0.N := by
  unfold X2
  rw [Function.update_of_ne (StableHlo.devRef_ne_of_ne (by decide)), Function.update_of_ne (StableHlo.devRef_ne_of_ne (by decide)), Function.update_self]
theorem X2_v16_1 (c : Dev nD) : X2 m c main_v16_1 = Grad.w1A (X1 m) c 32 := by
  unfold X2
  rw [Function.update_of_ne (StableHlo.devRef_ne_of_ne (by decide)), Function.update_self]
theorem X2_v16_2 (c : Dev nD) : X2 m c main_v16_2 = Grad.w2A (X1 m) c 32 := by
  unfold X2
  rw [Function.update_self]
theorem X3_v17_0 (c : Dev nD) : X3 m c main_v17_0 = (Upd.dat (X2 m) c).arrAt 9 cfg1.N := by
  unfold X3
  rw [Function.update_of_ne (StableHlo.devRef_ne_of_ne (by decide)), Function.update_self]
theorem X3_v17_1 (c : Dev nD) : X3 m c main_v17_1 = (Upd.dat (X2 m) c).arrAt 10 cfg1.N := by
  unfold X3
  rw [Function.update_self]
theorem X5_v20 (c : Dev nD) : X5 m c main_v20 = (Ret.dat (X4 m) c).arrAt 3 cfg2.N := by
  unfold X5
  rw [Function.update_self]

/-- No item writes an argument. -/
theorem X6_arg (c : Dev nD) (r : Ref sig .tc) (h0 : r ∉ hostOps0_W) (h1 : r ∉ ([main_v16_0, main_v16_1, main_v16_2] : List (Ref sig .tc)))
    (h2 : r ∉ ([main_v17_0, main_v17_1] : List (Ref sig .tc))) (h3 : r ∉ hostOps2_W) (h4 : r ≠ main_v20) (h5 : r ∉ hostOps3_W) :
    X6 m c r = m ((c : Thread nD τ).loc r) :=
  (X6_of m c r h5).trans <| (X5_of m c r h4).trans <| (X4_of m c r h3).trans <| (X3_of m c r h2).trans <| (X2_of m c r h1).trans <| X1_of m c r h0

/-! ## The calls' proof data and their records -/

/-- Each call's proof data. -/
def pdats : (p : Fin 3) → (c : Dev nD) → Dat τ (Elt F) Unit ℕ (Pipeline.UD sig nD τ) ℕ (Pipeline.pin (pcfgs (F := F)) adm p) c
  | ⟨0, _⟩, c => Grad.dat (X1 m) c
  | ⟨1, _⟩, c => Upd.dat (X2 m) c
  | ⟨2, _⟩, c => Ret.dat (X4 m) c

/-- What a core keeps beside its buffers: the generator's register, and that it owes nothing. -/
def E (c : Dev nD) : sProp 𝕄 := iprop((∃ r, prngReg c r) ∗ ∃ W, owes (c : Thread nD τ) (0 : CellTallies nD τ sig Unit) W)

/-- The cells' tags. -/
def L : GSem nD τ sig → Finset Unit := fun g => if g.1.2 = .tc then {()} else ∅
/-- All at one level. -/
def lv : GSem nD τ sig → Unit → ℕ := fun _ _ => 0
theorem hL (g : GSem nD τ sig) (h : g.1.2 ≠ .tc) : L g = ∅ := if_neg h

theorem cut (p : Fin 3) : Pipeline.LevelCut (pcfgs (F := F)) adm () L lv p (fun _ => 0) (fun _ => 0) where
  hι c w s := by unfold L; rw [if_pos rfl]; exact Finset.mem_singleton_self _
  hιb c w s := le_rfl
  hD c g i h := absurd h (by simp)

theorem noWait (c : Dev nD) : (levAts L lv : sProp 𝕄) ⊢ Transfers.MayWaits (c : Thread nD τ) () (0 : CellTallies nD τ sig Unit) := by
  iintro -
  iapply (Transfers.MayWaits.zero (c : Thread nD τ) ())
  iempintro

theorem hW0 (c : Dev nD) (w : Fin cfg0.W) : (Grad.dat (X1 m) c).arrAt w 0 = X1 m c (Proc.devRef .tc (Pipeline.arrRef spec0 w)) :=
  (show _ = (Grad.dat (X1 m) c).A w from rfl).trans (Grad.A_eq _ _ _)
theorem hW0' (c : Dev nD) (w : Fin cfg0.W) : (Grad.dat (X1 m) c).arrAt w cfg0.N = X2 m c (Proc.devRef .tc (Pipeline.arrRef spec0 w)) := by
  match w with
  | ⟨0, _⟩ => exact (((Grad.dat (X1 m) c).arrAt_in 0 rfl cfg0.N).trans (Grad.A_eq _ _ _)).trans (X2_of m c _ (by decide)).symm
  | ⟨1, _⟩ => exact (((Grad.dat (X1 m) c).arrAt_in 1 rfl cfg0.N).trans (Grad.A_eq _ _ _)).trans (X2_of m c _ (by decide)).symm
  | ⟨2, _⟩ => exact (X2_v16_0 m c).symm
theorem hW2 (c : Dev nD) (w : Fin cfg2.W) : (Ret.dat (X4 m) c).arrAt w 0 = X4 m c (Proc.devRef .tc (Pipeline.arrRef spec2 w)) :=
  (show _ = (Ret.dat (X4 m) c).A w from rfl).trans (Ret.A_eq _ _ _)
theorem hW2' (c : Dev nD) (w : Fin cfg2.W) : (Ret.dat (X4 m) c).arrAt w cfg2.N = X5 m c (Proc.devRef .tc (Pipeline.arrRef spec2 w)) := by
  match w with
  | ⟨0, _⟩ => exact (((Ret.dat (X4 m) c).arrAt_in 0 rfl cfg2.N).trans (Ret.A_eq _ _ _)).trans (X5_of m c _ (by decide)).symm
  | ⟨1, _⟩ => exact (((Ret.dat (X4 m) c).arrAt_in 1 rfl cfg2.N).trans (Ret.A_eq _ _ _)).trans (X5_of m c _ (by decide)).symm
  | ⟨2, _⟩ => exact (((Ret.dat (X4 m) c).arrAt_in 2 rfl cfg2.N).trans (Ret.A_eq _ _ _)).trans (X5_of m c _ (by decide)).symm
  | ⟨3, _⟩ => exact (X5_v20 m c).symm

theorem arr0_sub : Pipeline.arrRefs (τ := τ) spec0 ⊆ Pipeline.ucRefs τ sig := Pipeline.arrRefs_sub_ucRefs spec0 (by decide)
theorem arr2_sub : Pipeline.arrRefs (τ := τ) spec2 ⊆ Pipeline.ucRefs τ sig := Pipeline.arrRefs_sub_ucRefs spec2 (by decide)
/-- The buffers outside a call's windows. -/
def Sr0 : Finset (DevRef τ sig) := Pipeline.ucRefs τ sig \ Pipeline.arrRefs spec0
def Sr2 : Finset (DevRef τ sig) := Pipeline.ucRefs τ sig \ Pipeline.arrRefs spec2

/-- A finite set of TensorCore references, unscoped and missing the arrays of the windows `w`, lies outside the windows. -/
theorem hbm_sub {gr W : Nat} (win : Fin W → Pipeline.WinSpec sig gr) (H : Finset (Ref sig .tc))
    (h : ∀ r ∈ H, (Proc.devRef .tc r : DevRef τ sig).isScoped = false) (hd : ∀ r ∈ H, ∀ w, r ≠ Pipeline.arrRef win w) :
    Pipeline.hbmRefs (τ := τ) H ⊆ Pipeline.ucRefs τ sig \ Pipeline.arrRefs win := fun b hb => by
  refine Finset.mem_sdiff.mpr ⟨Pipeline.hbmRefs_sub_ucRefs H h hb, fun ha => ?_⟩
  obtain ⟨r, hr, rfl⟩ := Finset.mem_map.mp hb
  obtain ⟨r', hr', e⟩ := Finset.mem_map.mp ha
  obtain ⟨w, -, rfl⟩ := Finset.mem_image.mp hr'
  exact hd r hr w (Proc.devRef_injective _ e.symm)

theorem H0_sub : Pipeline.hbmRefs (τ := τ) Grad.H ⊆ Sr0 := hbm_sub spec0 Grad.H (by decide) (by decide)
theorem R0_sub : Pipeline.hbmRefs (τ := τ) Grad.Rw ⊆ Sr0 \ Pipeline.hbmRefs Grad.H := fun b hb => by
  refine Finset.mem_sdiff.mpr ⟨hbm_sub spec0 Grad.Rw (by decide) (by decide) hb, fun ha => ?_⟩
  obtain ⟨r, hr, rfl⟩ := Finset.mem_map.mp hb
  obtain ⟨r', hr', e⟩ := Finset.mem_map.mp ha
  exact absurd (Proc.devRef_injective _ e) (fun e => (by decide : ∀ a ∈ Grad.Rw, ∀ b ∈ Grad.H, b ≠ a) r hr r' hr' e)
theorem H2_sub : Pipeline.hbmRefs (τ := τ) Ret.H ⊆ Sr2 := hbm_sub spec2 Ret.H (by decide) (by decide)

theorem uc_ref (b : DevRef τ sig) (hb : b ∈ Pipeline.ucRefs τ sig) : ∃ r : Ref sig .tc, Proc.devRef .tc r = b := by
  obtain ⟨h, -⟩ := Finset.mem_filter.mp hb
  obtain ⟨r, -, e⟩ := Finset.mem_map.mp h
  exact ⟨r, e⟩

theorem hoff0 (c : Dev nD) (b : DevRef τ sig) (hb : b ∈ Sr0 \ Pipeline.hbmRefs (τ := τ) Grad.Rw) : X2 m c b = X1 m c b := by
  obtain ⟨h1, h2⟩ := Finset.mem_sdiff.mp hb
  obtain ⟨h3, h4⟩ := Finset.mem_sdiff.mp h1
  obtain ⟨r, rfl⟩ := uc_ref b h3
  refine X2_of m c r fun hr => ?_
  simp only [List.mem_cons, List.not_mem_nil, or_false] at hr
  rcases hr with rfl | rfl | rfl
  · exact h4 (Finset.mem_map.mpr ⟨_, Finset.mem_image.mpr ⟨2, Finset.mem_univ _, rfl⟩, rfl⟩)
  · exact h2 (Finset.mem_map.mpr ⟨main_v16_1, by decide, rfl⟩)
  · exact h2 (Finset.mem_map.mpr ⟨main_v16_2, by decide, rfl⟩)
theorem hoff2 (c : Dev nD) (b : DevRef τ sig) (hb : b ∈ Sr2) : X4 m c b = X5 m c b := by
  obtain ⟨h3, h4⟩ := Finset.mem_sdiff.mp hb
  obtain ⟨r, rfl⟩ := uc_ref b h3
  refine (X5_of m c r fun hr => ?_).symm
  subst hr
  exact h4 (Finset.mem_map.mpr ⟨_, Finset.mem_image.mpr ⟨3, Finset.mem_univ _, rfl⟩, rfl⟩)

/-- The first call's record. -/
def reg0 : RegionSeg (pcfgs (F := F)) adm (pdats m) () defs₀ Variants.none L lv 0 :=
  RegionSeg.ofHeldDW (pcfgs (F := F)) adm (pdats m) () defs₀ Variants.none L lv 0 (fun _ => 0) () Grad.osem Grad.ownSemFacts
    Grad.H Grad.Rw Sr0 H0_sub R0_sub launch0.toP rfl (fun c => (Grad.body_obligation (X1 m) c).loose) (fun _ _ => rfl) (fun _ => rfl)
    (fun c w => by match w with
      | ⟨0, _⟩ => rfl
      | ⟨1, _⟩ => rfl
      | ⟨2, _⟩ => rfl)
    noWait (X1 m) (X2 m) (hoff0 m) (Grad.hin (X1 m)) (fun c => Grad.hout (X1 m) (X2 m) c (X2_v16_1 m c) (X2_v16_2 m c))
    (fun _ => 0) (cut 0) (fun _ => iprop(emp)) (hW0 m) (hW0' m)

theorem pre0 (c : Dev nD) : iprop(StableHlo.held (c : Thread nD τ) (Pipeline.ucRefs τ sig) (X1 m c) ∗ E c) ⊢ (reg0 m).pre c := by
  show _ ⊢ iprop(StableHlo.held (c.tc : Thread nD τ) (Pipeline.arrRefs spec0) (X1 m c) ∗ (∃ r, prngReg c r)
      ∗ (StableHlo.held (c.tc : Thread nD τ) Sr0 (X1 m c) ∗ emp) ∗ ∃ Wd, owes (c : Thread nD τ) 0 Wd)
  rw [StableHlo.held_sub_split (c.tc : Thread nD τ) arr0_sub (X1 m c)]; unfold E Sr0
  iintro ⟨⟨Ha, Hr⟩, Hp, HO⟩
  isplitl [Ha]; · iexact Ha
  isplitl [Hp]; · iexact Hp
  isplitl [Hr]
  · isplitl [Hr]; · iexact Hr
    iempintro
  iexact HO
theorem post0 (c : Dev nD) : (reg0 m).post c ⊢ iprop(StableHlo.held (c : Thread nD τ) (Pipeline.ucRefs τ sig) (X2 m c) ∗ E c) := by
  show iprop(StableHlo.held (c.tc : Thread nD τ) (Pipeline.arrRefs spec0) (X2 m c) ∗ (∃ r, prngReg c r)
      ∗ (StableHlo.held (c.tc : Thread nD τ) Sr0 (X2 m c) ∗ emp) ∗ ∃ Wd, owes (c : Thread nD τ) 0 Wd) ⊢ _
  rw [StableHlo.held_sub_split (c.tc : Thread nD τ) arr0_sub (X2 m c)]; unfold E Sr0
  iintro ⟨Ha, Hp, ⟨Hr, -⟩, HO⟩
  isplitl [Ha Hr]
  · isplitl [Ha] <;> iassumption
  isplitl [Hp] <;> iassumption

/-- The third call's record. -/
def reg2 : RegionSeg (pcfgs (F := F)) adm (pdats m) () defs₀ Variants.none L lv 2 :=
  RegionSeg.ofHeldDH (pcfgs (F := F)) adm (pdats m) () defs₀ Variants.none L lv 2 (fun _ => 0) () Ret.osem Ret.ownSemFacts
    Ret.H Sr2 H2_sub launch2.toP rfl (fun c => (Ret.body_obligation (X4 m) c).loose) (fun _ _ => rfl) (fun _ => rfl)
    (fun c w => by match w with
      | ⟨0, _⟩ => rfl
      | ⟨1, _⟩ => rfl
      | ⟨2, _⟩ => rfl
      | ⟨3, _⟩ => rfl)
    noWait (X4 m) (X5 m) (Ret.hin (X4 m)) (Ret.hout (X4 m))
    (fun _ => 0) (cut 2) (fun _ => iprop(emp)) (hW2 m) (hW2' m)

theorem pre2 (c : Dev nD) : iprop(StableHlo.held (c : Thread nD τ) (Pipeline.ucRefs τ sig) (X4 m c) ∗ E c) ⊢ (reg2 m).pre c := by
  show _ ⊢ iprop(StableHlo.held (c.tc : Thread nD τ) (Pipeline.arrRefs spec2) (X4 m c) ∗ (∃ r, prngReg c r)
      ∗ (StableHlo.held (c.tc : Thread nD τ) Sr2 (X4 m c) ∗ emp) ∗ ∃ Wd, owes (c : Thread nD τ) 0 Wd)
  rw [StableHlo.held_sub_split (c.tc : Thread nD τ) arr2_sub (X4 m c)]; unfold E Sr2
  iintro ⟨⟨Ha, Hr⟩, Hp, HO⟩
  isplitl [Ha]; · iexact Ha
  isplitl [Hp]; · iexact Hp
  isplitl [Hr]
  · isplitl [Hr]; · iexact Hr
    iempintro
  iexact HO
theorem post2 (c : Dev nD) : (reg2 m).post c ⊢ iprop(StableHlo.held (c : Thread nD τ) (Pipeline.ucRefs τ sig) (X5 m c) ∗ E c) := by
  show iprop(StableHlo.held (c.tc : Thread nD τ) (Pipeline.arrRefs spec2) (X5 m c) ∗ (∃ r, prngReg c r)
      ∗ (StableHlo.held (c.tc : Thread nD τ) Sr2 (X4 m c) ∗ emp) ∗ ∃ Wd, owes (c : Thread nD τ) 0 Wd) ⊢ _
  rw [StableHlo.held_sub_split (c.tc : Thread nD τ) arr2_sub (X5 m c), StableHlo.held_congr (c.tc : Thread nD τ) (hoff2 m c)]; unfold E Sr2
  iintro ⟨Ha, Hp, ⟨Hr, -⟩, HO⟩
  isplitl [Ha Hr]
  · isplitl [Ha] <;> iassumption
  isplitl [Hp] <;> iassumption

/-! The second call: several windows on the gradients' arrays. -/

theorem hq1 (c : Dev nD) (w : Fin cfg1.W) : (spec1 w).isOut = false → (Upd.dat (X2 m) c).q w = Pipeline.shareOf spec1 w := fun _ => rfl
theorem hW1 (c : Dev nD) (w : Fin cfg1.W) : (Upd.dat (X2 m) c).arrAt w 0 = X2 m c (Proc.devRef .tc (Pipeline.arrRef spec1 w)) :=
  (show _ = (Upd.dat (X2 m) c).A w from rfl).trans (Upd.A_eq _ _ _)
theorem hW1' (c : Dev nD) (w : Fin cfg1.W) : (Upd.dat (X2 m) c).arrAt w cfg1.N = X3 m c (Proc.devRef .tc (Pipeline.arrRef spec1 w)) := by
  match w with
  | ⟨0, _⟩ => exact (((Upd.dat (X2 m) c).arrAt_in 0 rfl cfg1.N).trans (Upd.A_eq _ _ _)).trans (X3_of m c _ (by decide)).symm
  | ⟨1, _⟩ => exact (((Upd.dat (X2 m) c).arrAt_in 1 rfl cfg1.N).trans (Upd.A_eq _ _ _)).trans (X3_of m c _ (by decide)).symm
  | ⟨2, _⟩ => exact (((Upd.dat (X2 m) c).arrAt_in 2 rfl cfg1.N).trans (Upd.A_eq _ _ _)).trans (X3_of m c _ (by decide)).symm
  | ⟨3, _⟩ => exact (((Upd.dat (X2 m) c).arrAt_in 3 rfl cfg1.N).trans (Upd.A_eq _ _ _)).trans (X3_of m c _ (by decide)).symm
  | ⟨4, _⟩ => exact (((Upd.dat (X2 m) c).arrAt_in 4 rfl cfg1.N).trans (Upd.A_eq _ _ _)).trans (X3_of m c _ (by decide)).symm
  | ⟨5, _⟩ => exact (((Upd.dat (X2 m) c).arrAt_in 5 rfl cfg1.N).trans (Upd.A_eq _ _ _)).trans (X3_of m c _ (by decide)).symm
  | ⟨6, _⟩ => exact (((Upd.dat (X2 m) c).arrAt_in 6 rfl cfg1.N).trans (Upd.A_eq _ _ _)).trans (X3_of m c _ (by decide)).symm
  | ⟨7, _⟩ => exact (((Upd.dat (X2 m) c).arrAt_in 7 rfl cfg1.N).trans (Upd.A_eq _ _ _)).trans (X3_of m c _ (by decide)).symm
  | ⟨8, _⟩ => exact (((Upd.dat (X2 m) c).arrAt_in 8 rfl cfg1.N).trans (Upd.A_eq _ _ _)).trans (X3_of m c _ (by decide)).symm
  | ⟨9, _⟩ => exact (X3_v17_0 m c).symm
  | ⟨10, _⟩ => exact (X3_v17_1 m c).symm

/-- The buffers outside the second call's windows. -/
def rest1 (c : Dev nD) : sProp 𝕄 := Pipeline.unscopedRest spec1 c (fun b => X2 m c b)
def prng (c : Dev nD) : sProp 𝕄 := iprop(∃ r, prngReg c r)

/-- The second call's record. -/
def reg1 : RegionSeg (pcfgs (F := F)) adm (pdats m) () defs₀ Variants.none L lv 1 :=
  RegionSeg.ofArrays (pcfgs (F := F)) adm (pdats m) () defs₀ Variants.none L lv 1 (fun _ => 0) prng prng
    launch₀1.toP rfl (fun c => (Upd.body_obligation (X2 m) c).loose) (fun _ _ => rfl) (fun _ => rfl)
    (fun c => .rfl) (fun c => .rfl) (fun _ => 0) (cut 1) (rest1 m)

theorem pre1 (c : Dev nD) : iprop(StableHlo.held (c : Thread nD τ) (Pipeline.ucRefs τ sig) (X2 m c) ∗ E c) ⊢ (reg1 m).pre c := by
  show _ ⊢ iprop((Upd.dat (X2 m) c).arrays ((Upd.dat (X2 m) c).arrAt · 0) ∗ prng c ∗ rest1 m c ∗ ∃ W, owes (c : Thread nD τ) 0 W)
  rw [← Pipeline.unscopedBufs_held c (X2 m c), Pipeline.unscopedBufs_split₀ cfgs 1 winFacts₀1.arr_unscoped c (fun b => X2 m c b)]
  unfold E prng rest1
  iintro ⟨⟨Ha, Hr⟩, Hp, HO⟩
  isplitl [Ha]
  · iapply ((Upd.dat (X2 m) c).arrays_split_shared sharedIn1 arr_whole1 (hq1 m c) (fun b => X2 m c b) _ (hW1 m c)); iexact Ha
  isplitl [Hp]; · iexact Hp
  isplitl [Hr] <;> iassumption
theorem post1 (c : Dev nD) : (reg1 m).post c ⊢ iprop(StableHlo.held (c : Thread nD τ) (Pipeline.ucRefs τ sig) (X3 m c) ∗ E c) := by
  show iprop((Upd.dat (X2 m) c).arrays ((Upd.dat (X2 m) c).arrAt · cfg1.N) ∗ prng c ∗ rest1 m c ∗ ∃ W, owes (c : Thread nD τ) 0 W) ⊢ _
  rw [← Pipeline.unscopedBufs_held c (X3 m c)]
  unfold E prng rest1
  iintro ⟨Ha, Hp, Hr, HO⟩
  isplitl [Ha Hr]
  · iapply (Pipeline.unscopedBufs_of_arrays_shared (pcs := pcfgs (F := F)) (a := adm) (p := 1) winFacts₀1 sharedIn1 arr_whole1 c (pdats m) (hq1 m c)
      (fun b => X2 m c b) (fun b => X3 m c b) _ (hW1' m c) (fun b hb => X3_of m c b (fun hr => by
        simp only [List.mem_cons, List.not_mem_nil, or_false] at hr
        rcases hr with rfl | rfl
        · exact hb (Finset.mem_image.mpr ⟨9, Finset.mem_univ _, rfl⟩)
        · exact hb (Finset.mem_image.mpr ⟨10, Finset.mem_univ _, rfl⟩))))
    isplitl [Ha]; · iexact Ha
    iexact Hr
  isplitl [Hp] <;> iassumption

/-! ## The program's run -/

/-- The host's stretches. -/
def host0 : Pipeline.HostSeg (Name := ℕ) (U := Pipeline.UD sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (fun c => V0 m c) E
def host2 : Pipeline.HostSeg (Name := ℕ) (U := Pipeline.UD sig nD τ) (pcfgs (F := F)) defs₀ Variants.none L lv :=
  Pipeline.HostSeg.ofOps _ _ _ _ _ (Pipeline.ucRefs τ sig) hostOps2 (fun op h => Pipeline.sub_ucRefs op ((List.forall_iff_forall_mem.mp hostOps2_sub) op h))
    (fun op h => (List.forall_iff_forall_mem.mp hostOps2_fresh) op h) (X3 m) E
def host3 : Pipeline.HostSeg (Name := ℕ) (U := Pipeline.UD sig nD τ) (pcfgs (F := F)) defs₀ Variants.none L lv :=
  Pipeline.HostSeg.ofOps _ _ _ _ _ (Pipeline.ucRefs τ sig) hostOps3 (fun op h => Pipeline.sub_ucRefs op ((List.forall_iff_forall_mem.mp hostOps3_sub) op h))
    (fun op h => (List.forall_iff_forall_mem.mp hostOps3_fresh) op h) (X5 m) E

/-- The program's items in order. -/
def items : List (Pipeline.Seg (pcfgs (F := F)) adm (pdats m) () defs₀ Variants.none L lv) :=
  [.host (host0 m), .region (reg0 m), .region (reg1 m), .host (host2 m), .region (reg2 m), .host (host3 m)]

variable (ρ : Dev nD → PrngReg)

theorem start (c : Dev nD) :
    iprop((unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp) ∗ levAts L lv)
    ⊢ (|={Set.univ}=> iprop(StableHlo.held (c : Thread nD τ) (Pipeline.ucRefs τ sig) (V0 m c) ∗ E c) : sProp 𝕄) := by
  rw [← Pipeline.unscopedBufs_held c (V0 m c)]; unfold E
  iintro ⟨⟨Hb, -, HO, -, Hp, -⟩, -⟩
  imodintro
  isplitl [Hb]; · iexact Hb
  isplitl [Hp]
  · iexists (ρ c); iexact Hp
  iexists ∅; iexact HO

set_option backward.isDefEq.respectTransparency.types false in
/-- Every weakly fair execution ends, with every buffer of the TensorCores' main memory at the last contents and every counter
    at zero. -/
theorem run_main : θ_run (defs (F := F)) (onTc (τ := τ) (main (F := F))) ⟨m, fun _ => 0, ρ⟩
    (fun r => (∀ c : Dev nD, ∀ b ∈ Pipeline.ucRefs τ sig, r.2.mem ((c.tc : Thread nD τ).1, b) = X6 m c b) ∧ r.2.sem = fun _ => 0) := by
  refine Pipeline.θ_run_regions_kit_dev_sems (pcfgs (F := F)) adm (pdats m) () cellOf_inj embL defs₀ Variants.none L lv m ρ main
    (fun _ => items m)
    (fun c Q => by
      rewrite [main_chain c, Pipeline.Seg.run_eq_chain,
        show (items m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Pipeline.Seg.pipes_host, Pipeline.Seg.pipes_region, Pipeline.Seg.pipes_nil]; decide) (fun _ => 0) hL
    (fun _ => iprop(emp)) (initOf (Pipeline.cells (Pipeline.pin (pcfgs (F := F)) adm) cellOf_inj) (Pipeline.launchToks (Pipeline.pin (pcfgs (F := F)) adm) cellOf_inj), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (X6 m c))
    (hch := fun c => ⟨.rfl, pre0 m c, (post0 m c).trans (pre1 m c), post1 m c, pre2 m c, post2 m c, sep_mono .rfl (by
      unfold E; iintro ⟨-, H⟩; iexact H)⟩)
    (hinit := Pipeline.initEach L lv (start m ρ)) (QY := fun c s => ∀ b ∈ Pipeline.ucRefs τ sig, s.mem ((c.tc : Thread nD τ).1, b) = X6 m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (X6 m c) s') $$ [Hh HSI]
  · isplitl [Hh] <;> iassumption
  icases Hr with ⟨%h, HSI⟩
  imodintro
  isplitr
  · ipureintro; exact h
  · iexact HSI

/-- The run, at the arguments: unchanged; and the result holds the last contents. -/
theorem run_args : θ_run (defs (F := F)) (onTc (τ := τ) (main (F := F))) ⟨m, fun _ => 0, ρ⟩ (fun r => (∀ c : Dev nD,
      r.2.mem ((c.tc : Thread nD τ).loc main_v21) = X6 m c main_v21 ∧
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0) := by
  refine θ_run_mono (run_main m ρ) (fun r hr => ⟨fun c => ?_, hr.2⟩)
  have h := hr.1 c
  have at_ : ∀ r' : Ref sig .tc, (Proc.devRef .tc r' : DevRef τ sig).isScoped = false → r.2.mem ((c.tc : Thread nD τ).loc r') = X6 m c r' := fun r' hs =>
    h (Proc.devRef .tc r') (Finset.mem_filter.mpr ⟨StableHlo.devRef_mem_tcRefs r', by rw [hs]; decide⟩)
  have ar : ∀ r' : Ref sig .tc, (Proc.devRef .tc r' : DevRef τ sig).isScoped = false → r' ∉ hostOps0_W → r' ∉ ([main_v16_0, main_v16_1, main_v16_2] : List (Ref sig .tc)) →
      r' ∉ ([main_v17_0, main_v17_1] : List (Ref sig .tc)) → r' ∉ hostOps2_W → r' ≠ main_v20 → r' ∉ hostOps3_W →
      r.2.mem ((c.tc : Thread nD τ).loc r') = m ((c.tc : Thread nD τ).loc r') := fun r' hs h0 h1 h2 h3 h4 h5 =>
    (at_ r' hs).trans (X6_arg m c r' h0 h1 h2 h3 h4 h5)
  exact ⟨at_ main_v21 rfl, ar main_arg0 rfl (by decide) (by decide) (by decide) (by decide) (by decide) (by decide),
    ar main_arg1 rfl (by decide) (by decide) (by decide) (by decide) (by decide) (by decide),
    ar main_arg2 rfl (by decide) (by decide) (by decide) (by decide) (by decide) (by decide),
    ar main_arg3 rfl (by decide) (by decide) (by decide) (by decide) (by decide) (by decide),
    ar main_arg4 rfl (by decide) (by decide) (by decide) (by decide) (by decide) (by decide),
    ar main_arg5 rfl (by decide) (by decide) (by decide) (by decide) (by decide) (by decide),
    ar main_arg6 rfl (by decide) (by decide) (by decide) (by decide) (by decide) (by decide),
    ar main_arg7 rfl (by decide) (by decide) (by decide) (by decide) (by decide) (by decide),
    ar main_arg8 rfl (by decide) (by decide) (by decide) (by decide) (by decide) (by decide),
    ar main_arg9 rfl (by decide) (by decide) (by decide) (by decide) (by decide) (by decide),
    ar main_arg10 rfl (by decide) (by decide) (by decide) (by decide) (by decide) (by decide),
    ar main_arg11 rfl (by decide) (by decide) (by decide) (by decide) (by decide) (by decide),
    ar main_arg12 rfl (by decide) (by decide) (by decide) (by decide) (by decide) (by decide),
    ar main_arg13 rfl (by decide) (by decide) (by decide) (by decide) (by decide) (by decide),
    ar main_arg14 rfl (by decide) (by decide) (by decide) (by decide) (by decide) (by decide)⟩

end Cert.KernelIdeal.Whole

end
-- ==== Proof.Transfer.lean ====
module

public import proofs.«01_k».proof.Proof.Run
public import proofs.«01_k».proof.Proof.Gen.Kernel

/-! The kernel's program at the machine's floats is the same text as its idealization read there, so the run proved of the one is a run
    of the other. -/

@[expose] public section

set_option maxRecDepth 65536
set_option maxHeartbeats 4000000

noncomputable section

namespace Cert.Transfer

open Idealize.ShloMosaic Idealize.ShloMosaic.TcCoe
open Idealize.SL.Sem

variable {F : FTy → Type} [FloatOps F]

/-- The two programs' entry points are one text. -/
theorem same_main : @Cert.Kernel.main F _ Cert.Kernel.Gen.facts = @Cert.KernelIdeal.main F _ Cert.KernelIdeal.Gen.facts := rfl
/-- So are their calls' bodies. -/
theorem same_defs₀ : @Cert.Kernel.defs₀ F _ Cert.Kernel.Gen.facts = @Cert.KernelIdeal.defs₀ F _ Cert.KernelIdeal.Gen.facts := by
  refine congrArg Defs.onTc (funext fun l => funext fun a => ?_)
  match l, a with
  | 0, (t, s) => rfl
  | 1, (t, s) => rfl
  | 2, (t, s) => rfl
/-- And the calls with their pipelines. -/
theorem same_defs : @Cert.Kernel.defs F _ Cert.Kernel.Gen.facts = @Cert.KernelIdeal.defs F _ Cert.KernelIdeal.Gen.facts :=
  congrArg (Pipeline.defs Cert.KernelIdeal.pcfgs) same_defs₀

end Cert.Transfer

end
-- ==== Proof.Scalars.lean ====
module

public import Idealize.ShloMosaic.Lib.Pipeline.ValueKit
public import Idealize.ShloMosaic.Lib.Pointwise

/-! The scalar identities over the extended reals that carry the kernel's arithmetic to the reference's:
the logistic through the hyperbolic tangent, the mean of logistics, the derivative of `h · logistic h`, and the
closure of the finite values under what the gradient does. -/

@[expose] public section

set_option maxRecDepth 16384

noncomputable section

open Idealize.ShloMosaic
open scoped BigOperators

namespace Cert.Scalars

/-- The pattern of one half. -/
theorem half_bits : Ideal.ofBits .f32 0x3F000000#32 = (((1 : ℝ) / 2 : ℝ) : EReal) := by
  simp [Ideal.ofBits, Ideal.ieee, -EReal.coe_mul]; norm_num

/-- The pattern of two. -/
theorem two_bits : Ideal.ofBits .f32 0x40000000#32 = ((2 : ℝ) : EReal) := by
  simp [Ideal.ofBits, Ideal.ieee, -EReal.coe_mul]; norm_num

/-- The pattern of 1024. -/
theorem width_bits : Ideal.ofBits .f32 0x44800000#32 = ((1024 : ℝ) : EReal) := by
  simp [Ideal.ofBits, Ideal.ieee, -EReal.coe_mul]; norm_num

/-- The pattern of 2/1024. -/
theorem scale_bits : Ideal.ofBits .f32 0x3B000000#32 = (((1 : ℝ) / 512 : ℝ) : EReal) := by
  simp [Ideal.ofBits, Ideal.ieee, -EReal.coe_mul]; norm_num

/-- The pattern of 2 to the 24, the number of gate values. -/
theorem count_bits : Ideal.ofBits .f32 0x4B800000#32 = ((16777216 : ℝ) : EReal) := by
  simp [Ideal.ofBits, Ideal.ieee, -EReal.coe_mul]; norm_num

/-- One half, as the programs write it. -/
abbrev hf : EReal := Ideal.ofBits .f32 0x3F000000#32

/-- On the reals, the logistic is half of one plus the hyperbolic tangent at half the argument. -/
theorem real_logistic (z : ℝ) : (1 + Real.exp (-z))⁻¹ = 1 / 2 * (1 + Real.tanh (1 / 2 * z)) := by
  rw [Real.tanh_eq_sinh_div_cosh, Real.sinh_eq, Real.cosh_eq]
  have e1 : Real.exp (-z) = Real.exp (-(1 / 2 * z)) * Real.exp (-(1 / 2 * z)) := by
    rw [← Real.exp_add]; congr 1; ring
  have e2 : Real.exp (1 / 2 * z) * Real.exp (-(1 / 2 * z)) = 1 := by
    rw [← Real.exp_add]; simp
  have p1 := Real.exp_pos (1 / 2 * z)
  have p2 := Real.exp_pos (-(1 / 2 * z))
  rw [e1]
  generalize Real.exp (1 / 2 * z) = a at *
  generalize Real.exp (-(1 / 2 * z)) = b at *
  have h1 : (1 + b * b) ≠ 0 := by positivity
  have h2 : a + b ≠ 0 := by positivity
  field_simp
  nlinarith [e2]

/-- The logistic is half of one plus the hyperbolic tangent at half the argument. -/
theorem logistic_tanh (z : EReal) : hf * (1 + Ideal.tanh (hf * z)) = Ideal.logistic z := by
  rw [hf, half_bits]
  induction z using EReal.rec with
  | bot =>
    rw [EReal.coe_mul_bot_of_pos (by norm_num), Ideal.tanh_bot, Ideal.logistic_bot]
    have : (1 : EReal) + -1 = 0 := by
      rw [← EReal.coe_one, ← EReal.coe_neg, ← EReal.coe_add]; simp
    rw [this, mul_zero]
  | coe z =>
    rw [← EReal.coe_mul, Ideal.tanh_coe, Ideal.logistic_coe, ← EReal.coe_one, ← EReal.coe_add, ← EReal.coe_mul,
      real_logistic]
  | top =>
    rw [EReal.coe_mul_top_of_pos (by norm_num), Ideal.tanh_top, Ideal.logistic_top]
    rw [← EReal.coe_one, ← EReal.coe_add, ← EReal.coe_mul]
    norm_num

/-- The quotient the reference writes is the logistic. -/
theorem div_logistic (z : EReal) : Ideal.div 1 (1 + Ideal.exp (-z)) = Ideal.logistic z := rfl

/-- One half distributes over a sum. -/
theorem half_add (g b : EReal) : hf * g + hf * b = hf * (g + b) := by
  rw [hf, half_bits, EReal.left_distrib_of_nonneg_of_ne_top]
  · exact EReal.coe_nonneg.2 (by norm_num)
  · exact EReal.coe_ne_top _

/-- The hyperbolic tangent is a real number. -/
theorem tanh_real (z : EReal) : ∃ r : ℝ, Ideal.tanh z = r := by
  induction z using EReal.rec with
  | bot => exact ⟨-1, by simp⟩
  | coe z => exact ⟨_, Ideal.tanh_coe z⟩
  | top => exact ⟨1, by simp⟩

/-- A finite sum of reals, taken in the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of 2 to the 24 logistics, from the sum of the hyperbolic tangents. -/
theorem mean_logistic {ι : Type} [Fintype ι] (hc : Fintype.card ι = 16777216) (z : ι → EReal) :
    Ideal.div (∑ i, Ideal.logistic (z i)) (Ideal.ofBits .f32 0x4B800000#32)
      = hf + Ideal.div (hf * ∑ i, Ideal.tanh (hf * z i)) (Ideal.ofBits .f32 0x4B800000#32) := by
  choose t ht using fun i => tanh_real (hf * z i)
  simp only [← logistic_tanh, ht]
  rw [hf, half_bits, count_bits]
  have e1 : ∀ i, (((1 : ℝ) / 2 : ℝ) : EReal) * (1 + (t i : EReal)) = ((1 / 2 * (1 + t i) : ℝ) : EReal) := by
    intro i
    rw [← EReal.coe_one, ← EReal.coe_add, ← EReal.coe_mul]
  simp only [e1]
  rw [← coe_sum, ← coe_sum, ← EReal.coe_mul]
  have hne : ((16777216 : ℝ) : EReal) ≠ 0 := by exact_mod_cast (by norm_num : (16777216 : ℝ) ≠ 0)
  rw [Ideal.div, Ideal.div, if_neg hne, if_neg hne, ← EReal.coe_inv, ← EReal.coe_mul, ← EReal.coe_mul, ← EReal.coe_add]
  congr 1
  rw [← Finset.mul_sum, Finset.sum_add_distrib]
  simp only [Finset.sum_const, Finset.card_univ, hc, nsmul_eq_mul]
  push_cast
  ring

/-- A value that is a real number. -/
def IsReal (x : EReal) : Prop := ∃ r : ℝ, x = r

/-- A sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two real numbers is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem IsReal.sum {ι : Type} [Fintype ι] {f : ι → EReal} (h : ∀ i, IsReal (f i)) : IsReal (∑ i, f i) := by
  choose g hg using h
  exact ⟨∑ i, g i, by simp only [hg, coe_sum]⟩

/-- The logistic of a real number is real. -/
theorem IsReal.logistic {x : EReal} (hx : IsReal x) : IsReal (Ideal.logistic x) := by
  obtain ⟨a, rfl⟩ := hx; exact ⟨_, Ideal.logistic_coe a⟩

/-- A value that is neither infinity is a real number. -/
theorem IsReal.of_ne {x : EReal} (ht : x ≠ ⊤) (hb : x ≠ ⊥) : IsReal x := ⟨x.toReal, (EReal.coe_toReal ht hb).symm⟩

/-- The derivative of `h · logistic h` applied to a finite cotangent, in the kernel's and in the reference's form. -/
theorem dsilu {d : EReal} (hd : IsReal d) (h : EReal) :
    d * (Ideal.logistic h * (1 + h * (1 - Ideal.logistic h)))
      = d * Ideal.logistic h + h * d * (Ideal.logistic h * (1 - Ideal.logistic h)) := by
  obtain ⟨a, rfl⟩ := hd
  have h11 : (1 : EReal) - 1 = 0 := by rw [← EReal.coe_one, ← EReal.coe_sub]; simp
  induction h using EReal.rec with
  | bot => rw [Ideal.logistic_bot]; simp
  | coe h =>
    obtain ⟨s, hs⟩ : ∃ s : ℝ, Ideal.logistic (h : EReal) = s := ⟨_, Ideal.logistic_coe h⟩
    rw [hs, ← EReal.coe_one]
    simp only [← EReal.coe_sub, ← EReal.coe_mul, ← EReal.coe_add]
    congr 1
    ring
  | top => rw [Ideal.logistic_top, h11]; simp

/-- Twice the difference over 1024, as the kernel and as the reference write it. -/
theorem resid (y : EReal) :
    y * Ideal.ofBits .f32 0x3B000000#32
      = Ideal.div 1 (Ideal.ofBits .f32 0x44800000#32) * (Ideal.ofBits .f32 0x40000000#32 * y) := by
  have hne : ((1024 : ℝ) : EReal) ≠ 0 := by exact_mod_cast (by norm_num : (1024 : ℝ) ≠ 0)
  rw [scale_bits, width_bits, two_bits, Ideal.div, if_neg hne, one_mul, ← EReal.coe_inv, ← mul_assoc, ← EReal.coe_mul,
    mul_comm y]
  norm_num

/-- The new memory, associated the reference's way. -/
theorem step_assoc (p e g : EReal) : p + e - g = p + (e - g) := by
  rw [sub_eq_add_neg, sub_eq_add_neg, add_assoc]

end Cert.Scalars
-- ==== Proof.Prefix.lean ====
module

public import proofs.«01_k».proof.Proof.Run
public import proofs.«01_k».proof.Proof.Scalars

/-! The buffers the host prepares for the calls, at an index: the tokens flattened, the weights transposed and joined, the
biases joined and halved. -/

@[expose] public section

set_option maxRecDepth 16384

noncomputable section

namespace Cert.KernelIdeal.Whole

open Cert.KernelIdeal.Gen
open Idealize.ShloMosaic Idealize.ShloMosaic.TcCoe Idealize.ShloMosaic.Tactic
open Cert.Scalars

variable (m : (ℓ : Loc nD τ sig) → Buf (Elt Ideal) ℓ) (c : Dev nD)

/-- An argument on a device. -/
abbrev arg (r : Ref sig .tc) := m ((c : Thread nD τ).loc r)

/-- The flattened tokens are the argument x, row by row. -/
theorem X1_v0 (n : Fin 16384) (i : Fin 1024) : (show FVec Ideal S16384x1024 .f32 from X1 m c main_v0) (ix2 n i)
    = (show FVec Ideal S4x4096x1024 .f32 from arg m c main_arg0) (ix3 ⟨n.val / 4096, by omega⟩ ⟨n.val % 4096, by omega⟩ i) := by
  unfold X1
  after_results
  pointwise

/-- The joined gate weights' first part is Wgd, transposed. -/
theorem X1_v3_0 (i j : Fin 1024) : (show FVec Ideal S1024x3072 .fp8e4m3 from X1 m c main_v3) (ix2 i ⟨j.val, by omega⟩)
    = (show FVec Ideal S1024x1024 .f32 from arg m c main_arg5) (ix2 j i) := by
  unfold X1
  after_results
  pointwise
  rfl

/-- The joined gate weights' second part is Wgl, transposed. -/
theorem X1_v3_1 (i j : Fin 1024) : (show FVec Ideal S1024x3072 .fp8e4m3 from X1 m c main_v3) (ix2 i ⟨1024 + j.val, by omega⟩)
    = (show FVec Ideal S1024x1024 .f32 from arg m c main_arg7) (ix2 j i) := by
  unfold X1
  after_results
  pointwise
  rfl

/-- The joined gate weights' third part is Wgm, transposed. -/
theorem X1_v3_2 (i j : Fin 1024) : (show FVec Ideal S1024x3072 .fp8e4m3 from X1 m c main_v3) (ix2 i ⟨2048 + j.val, by omega⟩)
    = (show FVec Ideal S1024x1024 .f32 from arg m c main_arg9) (ix2 j i) := by
  unfold X1
  after_results
  pointwise
  refine (dif_neg (by omega)).trans ((dif_neg (by omega)).trans ?_)
  refine Eq.trans (b := (show FVec Ideal S1024x1024 .f32 from arg m c main_arg9) (ix2 ⟨2048 + j.val - 1024 - 1024, by omega⟩ i)) rfl ?_
  exact congrArg (fun a : Fin 1024 => (show FVec Ideal S1024x1024 .f32 from arg m c main_arg9) (ix2 a i)) (Fin.ext (by simp only; omega))

/-- The joined biases' first part is half of bgd. -/
theorem X1_v7_0 (j : Fin 1024) : (show FVec Ideal S1x3072 .f32 from X1 m c main_v7) (ix2 0 ⟨j.val, by omega⟩)
    = hf * (show FVec Ideal S1024 .f32 from arg m c main_arg6) (ix1 j) := by
  unfold X1
  after_results
  pointwise
  rfl

/-- The joined biases' second part is half of bgl. -/
theorem X1_v7_1 (j : Fin 1024) : (show FVec Ideal S1x3072 .f32 from X1 m c main_v7) (ix2 0 ⟨1024 + j.val, by omega⟩)
    = hf * (show FVec Ideal S1024 .f32 from arg m c main_arg8) (ix1 j) := by
  unfold X1
  after_results
  pointwise
  rfl

/-- The joined biases' third part is half of bgm. -/
theorem X1_v7_2 (j : Fin 1024) : (show FVec Ideal S1x3072 .f32 from X1 m c main_v7) (ix2 0 ⟨2048 + j.val, by omega⟩)
    = hf * (show FVec Ideal S1024 .f32 from arg m c main_arg10) (ix1 j) := by
  unfold X1
  after_results
  pointwise
  refine congrArg _ ((dif_neg (by omega)).trans ((dif_neg (by omega)).trans ?_))
  refine Eq.trans (b := (show FVec Ideal S1024 .f32 from arg m c main_arg10) (ix1 ⟨2048 + j.val - 1024 - 1024, by omega⟩)) rfl ?_
  exact congrArg (fun a : Fin 1024 => (show FVec Ideal S1024 .f32 from arg m c main_arg10) (ix1 a)) (Fin.ext (by simp only; omega))

/-- The joined projections' first part is Wk, transposed. -/
theorem X1_v10_0 (i j : Fin 1024) : (show FVec Ideal S1024x2048 .bf16 from X1 m c main_v10) (ix2 i ⟨j.val, by omega⟩)
    = (show FVec Ideal S1024x1024 .f32 from arg m c main_arg1) (ix2 j i) := by
  unfold X1
  after_results
  pointwise

/-- The joined projections' second part is Wv, transposed. -/
theorem X1_v10_1 (i j : Fin 1024) : (show FVec Ideal S1024x2048 .bf16 from X1 m c main_v10) (ix2 i ⟨1024 + j.val, by omega⟩)
    = (show FVec Ideal S1024x1024 .f32 from arg m c main_arg2) (ix2 j i) := by
  unfold X1
  after_results
  pointwise

/-- The first matrix as the first call reads it is M1, transposed. -/
theorem X1_v12 (j : Fin 1024) (p : Fin 2048) : (show FVec Ideal S1024x2048 .bf16 from X1 m c main_v12) (ix2 j p)
    = (show FVec Ideal S2048x1024 .f32 from arg m c main_arg11) (ix2 p j) := by
  unfold X1
  after_results
  pointwise

/-- The second matrix as the first call reads it is M2, transposed. -/
theorem X1_v14 (j : Fin 1024) (p : Fin 2048) : (show FVec Ideal S2048x1024 .bf16 from X1 m c main_v14) (ix2 p j)
    = (show FVec Ideal S1024x2048 .f32 from arg m c main_arg12) (ix2 j p) := by
  unfold X1
  after_results
  pointwise

/-- The second matrix as the first call reads it again is M2. -/
theorem X1_v15 (j : Fin 1024) (p : Fin 2048) : (show FVec Ideal S1024x2048 .bf16 from X1 m c main_v15) (ix2 j p)
    = (show FVec Ideal S1024x2048 .f32 from arg m c main_arg12) (ix2 j p) := by
  unfold X1
  after_results
  pointwise

/-- The third call's weights are the arguments. -/
theorem X4_v18 (i j : Fin 1024) : (show FVec Ideal S1024x1024 .bf16 from X4 m c main_v18) (ix2 i j)
    = (show FVec Ideal S1024x1024 .f32 from arg m c main_arg3) (ix2 i j) := by
  unfold X4
  after_results
  pointwise
  exact congrFun ((X3_of m c main_arg3 (by decide)).trans ((X2_of m c main_arg3 (by decide)).trans (X1_of m c main_arg3 (by decide)))) (ix2 i j)

/-- The third call's output projection is Wout. -/
theorem X4_v19 (i j : Fin 1024) : (show FVec Ideal S1024x1024 .bf16 from X4 m c main_v19) (ix2 i j)
    = (show FVec Ideal S1024x1024 .f32 from arg m c main_arg4) (ix2 i j) := by
  unfold X4
  after_results
  pointwise
  exact congrFun ((X3_of m c main_arg4 (by decide)).trans ((X2_of m c main_arg4 (by decide)).trans (X1_of m c main_arg4 (by decide)))) (ix2 i j)

/-- The result is the third call's rows, by batch. -/
theorem X6_v21 (b : Fin 4) (s : Fin 4096) (j : Fin 1024) : (show FVec Ideal S4x4096x1024 .f32 from X6 m c main_v21) (ix3 b s j)
    = (show FVec Ideal S16384x1024 .f32 from X5 m c main_v20) (ix2 ⟨b.val * 4096 + s.val, by omega⟩ j) := by
  unfold X6
  after_results
  pointwise

end Cert.KernelIdeal.Whole
-- ==== Proof.Spec.lean ====
module

public import proofs.«01_k».proof.Proof.Scalars

/-! What the layer computes, over plain functions of finite indices: row by row the projections, the memory, its residual
and the gradient's cotangents; over all the rows the gradients, the gates' means and the updated memory. -/

@[expose] public section

noncomputable section

open Idealize.ShloMosaic
open scoped BigOperators

namespace Cert.Spec

open Cert.Scalars

/-- A row through a matrix of `b` rows: `x @ W.T`. -/
def lin {a b : ℕ} (w : Fin b → Fin a → EReal) (x : Fin a → EReal) (j : Fin b) : EReal := ∑ i, x i * w j i

/-- `h` times its logistic. -/
def silu (h : EReal) : EReal := h * Ideal.logistic h

/-- The two-layer memory at a row. -/
def mem {d e : ℕ} (m1 : Fin e → Fin d → EReal) (m2 : Fin d → Fin e → EReal) (k : Fin d → EReal) : Fin d → EReal :=
  lin m2 fun p => silu (lin m1 k p)

/-- Retrieval of one row: query, memory, output projection. -/
def retr {d e : ℕ} (wq wo : Fin d → Fin d → EReal) (m1 : Fin e → Fin d → EReal) (m2 : Fin d → Fin e → EReal)
    (x : Fin d → EReal) : Fin d → EReal :=
  lin wo (mem m1 m2 (lin wq x))

/-- The loss's cotangent at the memory's output for one row: twice the residual over the width. -/
def res {d e : ℕ} (wk wv : Fin d → Fin d → EReal) (m1 : Fin e → Fin d → EReal) (m2 : Fin d → Fin e → EReal)
    (x : Fin d → EReal) (j : Fin d) : EReal :=
  (mem m1 m2 (lin wk x) j - lin wv x j) * Ideal.ofBits .f32 0x3B000000#32

/-- The cotangent at the activations for one row. -/
def cot {d e : ℕ} (wk wv : Fin d → Fin d → EReal) (m1 : Fin e → Fin d → EReal) (m2 : Fin d → Fin e → EReal)
    (x : Fin d → EReal) (p : Fin e) : EReal :=
  ∑ j, res wk wv m1 m2 x j * m2 j p

/-- The cotangent before the activation for one row, in the kernel's form. -/
def cotH {d e : ℕ} (wk wv : Fin d → Fin d → EReal) (m1 : Fin e → Fin d → EReal) (m2 : Fin d → Fin e → EReal)
    (x : Fin d → EReal) (p : Fin e) : EReal :=
  cot wk wv m1 m2 x p * (Ideal.logistic (lin m1 (lin wk x) p)
    * (1 + lin m1 (lin wk x) p * (1 - Ideal.logistic (lin m1 (lin wk x) p))))

/-- The first matrix's gradient: over the rows, the cotangent before the activation times the key. -/
def grad1 {d e : ℕ} {ι : Type} [Fintype ι] (wk wv : Fin d → Fin d → EReal) (m1 : Fin e → Fin d → EReal)
    (m2 : Fin d → Fin e → EReal) (x : ι → Fin d → EReal) (p : Fin e) (j : Fin d) : EReal :=
  ∑ n, cotH wk wv m1 m2 (x n) p * lin wk (x n) j

/-- The second matrix's gradient: over the rows, the residual's cotangent times the activation. -/
def grad2 {d e : ℕ} {ι : Type} [Fintype ι] (wk wv : Fin d → Fin d → EReal) (m1 : Fin e → Fin d → EReal)
    (m2 : Fin d → Fin e → EReal) (x : ι → Fin d → EReal) (j : Fin d) (p : Fin e) : EReal :=
  ∑ n, res wk wv m1 m2 (x n) j * silu (lin m1 (lin wk (x n)) p)

/-- A gate: the mean over rows and lanes of the logistic of the row's projection and the bias. -/
def gate {d : ℕ} {ι : Type} [Fintype ι] (w : Fin d → Fin d → EReal) (b : Fin d → EReal) (x : ι → Fin d → EReal) : EReal :=
  Ideal.div (∑ n, ∑ j, Ideal.logistic (lin w (x n) j + b j)) (Ideal.ofBits .f32 0x4B800000#32)

/-- The updated matrix: decayed memory, momentum, gradient step. -/
def upd (al th et m s g : EReal) : EReal := (1 - al) * m + et * s - th * g

/-- In the kernel a gate is one half plus half the mean of the hyperbolic tangents. -/
theorem gate_tanh {d : ℕ} {ι : Type} [Fintype ι] (hc : Fintype.card ι * d = 16777216) (w : Fin d → Fin d → EReal)
    (b : Fin d → EReal) (x : ι → Fin d → EReal) :
    gate w b x = hf + Ideal.div (hf * ∑ n, ∑ j, Ideal.tanh (hf * lin w (x n) j + hf * b j))
      (Ideal.ofBits .f32 0x4B800000#32) := by
  unfold gate
  simp only [half_add]
  rw [← Fintype.sum_prod_type' (f := fun n j => Ideal.logistic (lin w (x n) j + b j)),
    ← Fintype.sum_prod_type' (f := fun n j => Ideal.tanh (hf * (lin w (x n) j + b j)))]
  exact mean_logistic (by simp [hc]) _

/-- Retrieval from equal matrices, of equal rows, at equal lanes, is equal. -/
theorem retr_congr {d e : ℕ} {wq wq' wo wo' : Fin d → Fin d → EReal} {m1 m1' : Fin e → Fin d → EReal}
    {m2 m2' : Fin d → Fin e → EReal} {x x' : Fin d → EReal} {o o' : Fin d} (hq : ∀ a b, wq a b = wq' a b)
    (ho : ∀ a b, wo a b = wo' a b) (h1 : ∀ a b, m1 a b = m1' a b) (h2 : ∀ a b, m2 a b = m2' a b)
    (hx : ∀ a, x a = x' a) (h : o = o') : retr wq wo m1 m2 x o = retr wq' wo' m1' m2' x' o' := by
  obtain rfl : wq = wq' := funext₂ hq
  obtain rfl : wo = wo' := funext₂ ho
  obtain rfl : m1 = m1' := funext₂ h1
  obtain rfl : m2 = m2' := funext₂ h2
  obtain rfl : x = x' := funext hx
  rw [h]

/-- The update step of equal elements, the gradient given as a sum of two parts, is equal. -/
theorem upd_congr {al th et m m' s s' a a' b b' : EReal} (hm : m = m') (hs : s = s') (ha : a = a') (hb : b = b') :
    upd al th et m s (a + b) = upd al th et m' s' (a' + b') := by rw [hm, hs, ha, hb]

end Cert.Spec
-- ==== Proof.ValueGrad.lean ====
module

public import proofs.«01_k».proof.Proof.Region0Base
public import proofs.«01_k».proof.Proof.Spec
public import proofs.«01_k».proof.Proof.Stores

/-! One point of the first call at an index: keys, activations, residuals and cotangents of the block's rows, and what the
point adds to the two gradients and to the gates' sums. -/

@[expose] public section

set_option maxRecDepth 16384

noncomputable section

namespace Cert.KernelIdeal.Grad

open Cert.KernelIdeal.Gen
open Idealize.ShloMosaic Idealize.ShloMosaic.TcCoe
open Cert.Spec Cert.Scalars
open scoped BigOperators

/-- The key projection out of the joined, transposed projections. -/
abbrev kM (w : FVec Ideal S1024x2048 .bf16) : Fin 1024 → Fin 1024 → EReal := fun j i => w (ix2 i ⟨j.val, by omega⟩)
/-- The value projection out of the joined, transposed projections. -/
abbrev vM (w : FVec Ideal S1024x2048 .bf16) : Fin 1024 → Fin 1024 → EReal := fun j i => w (ix2 i ⟨1024 + j.val, by omega⟩)
/-- The first matrix out of its transpose. -/
abbrev m1M (m1t : FVec Ideal S1024x2048 .bf16) : Fin 2048 → Fin 1024 → EReal := fun p j => m1t (ix2 j p)
/-- The second matrix. -/
abbrev m2M (m2 : FVec Ideal S1024x2048 .bf16) : Fin 1024 → Fin 2048 → EReal := fun j p => m2 (ix2 j p)

section Halves

variable (x : FVec Ideal S256x1024 .f32) (wk m1t : FVec Ideal S1024x2048 .bf16) (m2t : FVec Ideal S2048x1024 .bf16)
  (m2 : FVec Ideal S1024x2048 .bf16)

/-- The upper half's keys, row by row. -/
theorem key_top (r : Fin 256) (j : Fin 1024) :
    k0_pay11 (F := Ideal) x wk (ix2 r j) = lin (kM wk) (fun i => x (ix2 r i)) j := by
  unfold lin
  pointwise [k0_pay11, k0_pay9, k0_pay8, k0_pay6]

/-- The lower half's keys, row by row. -/
theorem key_low (r : Fin 256) (j : Fin 1024) :
    k0_pay24 (F := Ideal) x wk (ix2 r j) = lin (kM wk) (fun i => x (ix2 r i)) j := by
  unfold lin
  pointwise [k0_pay24, k0_pay22, k0_pay21, k0_pay19]

/-- The upper half's activations, row by row. -/
theorem act_top (r : Fin 256) (p : Fin 2048) :
    k0_pay15 (F := Ideal) (k0_pay9 x wk) m1t (ix2 r p)
      = silu (lin (m1M m1t) (lin (kM wk) fun i => x (ix2 r i)) p) := by
  unfold silu lin
  pointwise [k0_pay15, k0_pay14, k0_pay13, k0_pay12, k0_pay9, k0_pay8, k0_pay6]
  simp only [logistic_tanh]

/-- The lower half's activations, row by row. -/
theorem act_low (r : Fin 256) (p : Fin 2048) :
    k0_pay29 (F := Ideal) (k0_pay25 x wk m1t) (k0_pay26 x wk m1t) (Scalar.ofBits .f32 0x3F800000#32) (ix2 r p)
      = silu (lin (m1M m1t) (lin (kM wk) fun i => x (ix2 r i)) p) := by
  unfold silu lin
  pointwise [k0_pay29, k0_pay28, k0_pay27, k0_pay26, k0_pay25, k0_pay22, k0_pay21, k0_pay19]
  simp only [logistic_tanh]

/-- The upper half's residual cotangents, row by row. -/
theorem res_top (hm : ∀ j p, m2t (ix2 p j) = m2 (ix2 j p)) (r : Fin 256) (j : Fin 1024) :
    k0_pay17 (F := Ideal) (k0_pay9 x wk) (k0_pay10 x wk) m1t m2t (ix2 r j)
      = res (kM wk) (vM wk) (m1M m1t) (m2M m2) (fun i => x (ix2 r i)) j := by
  unfold res mem silu lin
  pointwise [k0_pay17, k0_pay16, k0_pay14, k0_pay13, k0_pay12, k0_pay10, k0_pay9, k0_pay8, k0_pay6]
  simp only [logistic_tanh, hm]

/-- The lower half's residual cotangents, row by row. -/
theorem res_low (hm : ∀ j p, m2t (ix2 p j) = m2 (ix2 j p)) (r : Fin 256) (j : Fin 1024) :
    k0_pay31 (F := Ideal) (k0_pay23 x wk) (k0_pay25 x wk m1t) (k0_pay26 x wk m1t) (Scalar.ofBits .f32 0x3F800000#32) m2t
        (ix2 r j)
      = res (kM wk) (vM wk) (m1M m1t) (m2M m2) (fun i => x (ix2 r i)) j := by
  unfold res mem silu lin
  pointwise [k0_pay31, k0_pay30, k0_pay28, k0_pay27, k0_pay26, k0_pay25, k0_pay23, k0_pay22, k0_pay21, k0_pay19]
  simp only [logistic_tanh, hm]

/-- The upper half's cotangents before the activation, row by row. -/
theorem cot_top (hm : ∀ j p, m2t (ix2 p j) = m2 (ix2 j p)) (r : Fin 256) (p : Fin 2048) :
    k0_pay18 (F := Ideal) (k0_pay9 x wk) (k0_pay10 x wk) m1t m2t m2 (ix2 r p)
      = cotH (kM wk) (vM wk) (m1M m1t) (m2M m2) (fun i => x (ix2 r i)) p := by
  unfold cotH cot res mem silu lin
  pointwise [k0_pay18, k0_pay16, k0_pay14, k0_pay13, k0_pay12, k0_pay10, k0_pay9, k0_pay8, k0_pay6]
  simp only [logistic_tanh, hm]

/-- The lower half's cotangents before the activation, row by row. -/
theorem cot_low (hm : ∀ j p, m2t (ix2 p j) = m2 (ix2 j p)) (r : Fin 256) (p : Fin 2048) :
    k0_pay32 (F := Ideal) (k0_pay23 x wk) (k0_pay25 x wk m1t) (k0_pay26 x wk m1t) (Scalar.ofBits .f32 0x3F800000#32) m2t
        m2 (ix2 r p)
      = cotH (kM wk) (vM wk) (m1M m1t) (m2M m2) (fun i => x (ix2 r i)) p := by
  unfold cotH cot res mem silu lin
  pointwise [k0_pay32, k0_pay30, k0_pay28, k0_pay27, k0_pay26, k0_pay25, k0_pay23, k0_pay22, k0_pay21, k0_pay19]
  simp only [logistic_tanh, hm]

variable (wg : FVec Ideal S1024x3072 .fp8e4m3) (hb : FVec Ideal S1x3072 .f32) (gs : FVec Ideal S1x8x3072 .f32)

/-- The upper half adds its rows' hyperbolic tangents to the gates' sums, sublane by sublane. -/
theorem gs_top (b : Fin 8) (l : Fin 3072) :
    k0_pay7 (F := Ideal) x wg hb gs (ix3 0 b l) = gs (ix3 0 b l) + ∑ a : Fin 32,
      Ideal.tanh (hf * (∑ i, x (ix2 ⟨a.val * 8 + b.val, by omega⟩ i) * wg (ix2 i l)) + hb (ix2 0 l)) := by
  pointwise [k0_pay7, k0_pay6]

/-- The lower half adds its rows' hyperbolic tangents to the gates' sums, sublane by sublane. -/
theorem gs_low (b : Fin 8) (l : Fin 3072) :
    k0_pay20 (F := Ideal) x wg hb gs (ix3 0 b l) = gs (ix3 0 b l) + ∑ a : Fin 32,
      Ideal.tanh (hf * (∑ i, x (ix2 ⟨a.val * 8 + b.val, by omega⟩ i) * wg (ix2 i l)) + hb (ix2 0 l)) := by
  pointwise [k0_pay20, k0_pay19]

end Halves

section Block

variable (x : FVec Ideal S512x1024 .f32) (wk m1t : FVec Ideal S1024x2048 .bf16) (m2t : FVec Ideal S2048x1024 .bf16)
  (m2 : FVec Ideal S1024x2048 .bf16)

/-- Row `n` of a block. -/
abbrev brow (x : FVec Ideal S512x1024 .f32) (n : Fin 512) : Fin 1024 → EReal := fun i => x (ix2 n i)

/-- Row `r` of the block's upper half is the block's row `r`. -/
theorem brow_top (r : Fin 256) (n : Fin 512) (h : n.val = r.val) : (fun i => xT (F := Ideal) x (ix2 r i)) = brow x n := by
  funext i
  unfold xT
  pointwise
  exact congrArg (fun a : Fin 512 => x (ix2 a i)) (Fin.ext (by simp [h]))

/-- Row `r` of the block's lower half is the block's row `256 + r`. -/
theorem brow_low (r : Fin 256) (n : Fin 512) (h : n.val = 256 + r.val) :
    (fun i => xB (F := Ideal) x (ix2 r i)) = brow x n := by
  funext i
  unfold xB
  pointwise
  exact congrArg (fun a : Fin 512 => x (ix2 a i)) (Fin.ext (by simp [h]))

/-- The block's keys, row by row. -/
theorem kaF_at (y : S512x1024.Idx) : kaF (F := Ideal) x wk y = lin (kM wk) (brow x (y 0)) (y 1) := by
  unfold kaF
  canon_tiles z h
  · idx_vars z
    refine (key_low _ _ z0 z1).trans ?_
    rw [brow_low x z0 (y 0) h0]
    exact congrArg _ (Fin.ext h1.symm)
  · idx_vars z
    refine (key_top _ _ z0 z1).trans ?_
    rw [brow_top x z0 (y 0) (by omega)]
    exact congrArg _ (Fin.ext h1.symm)

/-- The block's activations, row by row. -/
theorem aaF_at (y : S512x2048.Idx) :
    aaF (F := Ideal) x wk m1t y = silu (lin (m1M m1t) (lin (kM wk) (brow x (y 0))) (y 1)) := by
  unfold aaF
  canon_tiles z h
  · idx_vars z
    refine (act_low _ _ _ z0 z1).trans ?_
    rw [brow_low x z0 (y 0) h0]
    exact congrArg (fun p => silu (lin (m1M m1t) (lin (kM wk) (brow x (y 0))) p)) (Fin.ext h1.symm)
  · idx_vars z
    refine (act_top _ _ _ z0 z1).trans ?_
    rw [brow_top x z0 (y 0) (by omega)]
    exact congrArg (fun p => silu (lin (m1M m1t) (lin (kM wk) (brow x (y 0))) p)) (Fin.ext h1.symm)

/-- The block's scaled residuals, row by row. -/
theorem raF_at (hm : ∀ j p, m2t (ix2 p j) = m2 (ix2 j p)) (y : S512x1024.Idx) :
    raF (F := Ideal) x wk m1t m2t y = res (kM wk) (vM wk) (m1M m1t) (m2M m2) (brow x (y 0)) (y 1) := by
  unfold raF
  canon_tiles z h
  · idx_vars z
    refine (res_low _ _ _ _ m2 hm z0 z1).trans ?_
    rw [brow_low x z0 (y 0) h0]
    exact congrArg _ (Fin.ext h1.symm)
  · idx_vars z
    refine (res_top _ _ _ _ m2 hm z0 z1).trans ?_
    rw [brow_top x z0 (y 0) (by omega)]
    exact congrArg _ (Fin.ext h1.symm)

/-- The block's gradients at the first product, row by row. -/
theorem dhF_at (hm : ∀ j p, m2t (ix2 p j) = m2 (ix2 j p)) (y : S512x2048.Idx) :
    dhF (F := Ideal) x wk m1t m2t m2 y = cotH (kM wk) (vM wk) (m1M m1t) (m2M m2) (brow x (y 0)) (y 1) := by
  unfold dhF
  canon_tiles z h
  · idx_vars z
    refine (cot_low _ _ _ _ _ hm z0 z1).trans ?_
    rw [brow_low x z0 (y 0) h0]
    exact congrArg _ (Fin.ext h1.symm)
  · idx_vars z
    refine (cot_top _ _ _ _ _ hm z0 z1).trans ?_
    rw [brow_top x z0 (y 0) (by omega)]
    exact congrArg _ (Fin.ext h1.symm)

/-- What a block adds to the first gradient. -/
theorem stepG1_at (hm : ∀ j p, m2t (ix2 p j) = m2 (ix2 j p)) (g : FVec Ideal S2048x1024 .f32) (p : Fin 2048) (j : Fin 1024) :
    stepG1 (F := Ideal) x wk m1t m2t m2 g (ix2 p j)
      = g (ix2 p j) + grad1 (kM wk) (vM wk) (m1M m1t) (m2M m2) (brow x) p j := by
  unfold stepG1 grad1
  pointwise [k0_pay1]
  simp only [dhF_at x wk m1t m2t m2 hm, kaF_at]
  rfl

/-- What a block adds to the second gradient. -/
theorem stepG2_at (hm : ∀ j p, m2t (ix2 p j) = m2 (ix2 j p)) (g : FVec Ideal S1024x2048 .f32) (j : Fin 1024) (p : Fin 2048) :
    stepG2 (F := Ideal) x wk m1t m2t g (ix2 j p)
      = g (ix2 j p) + grad2 (kM wk) (vM wk) (m1M m1t) (m2M m2) (brow x) j p := by
  unfold stepG2 grad2
  pointwise [k0_pay2]
  simp only [raF_at x wk m1t m2t m2 hm, aaF_at]
  rfl

/-- One gate's term at one row and lane. -/
def gterm (wg : FVec Ideal S1024x3072 .fp8e4m3) (hb : FVec Ideal S1x3072 .f32) (x : Fin 1024 → EReal) (l : Fin 3072) : EReal :=
  Ideal.tanh (hf * (∑ i, x i * wg (ix2 i l)) + hb (ix2 0 l))

/-- What a block adds to the gates' sums: in sublane `b`, its rows that are `b` modulo 8. -/
theorem stepGs_at (wg : FVec Ideal S1024x3072 .fp8e4m3) (hb : FVec Ideal S1x3072 .f32) (g : FVec Ideal S1x8x3072 .f32)
    (b : Fin 8) (l : Fin 3072) :
    stepGs (F := Ideal) x wg hb g (ix3 0 b l)
      = g (ix3 0 b l) + ∑ a : Fin 64, gterm wg hb (brow x ⟨a.val * 8 + b.val, by omega⟩) l := by
  have ht : ∀ a : Fin 32, (fun i => xT (F := Ideal) x (ix2 ⟨a.val * 8 + b.val, by omega⟩ i))
      = brow x ⟨a.val * 8 + b.val, by omega⟩ := fun a => brow_top x _ _ rfl
  have hl : ∀ a : Fin 32, (fun i => xB (F := Ideal) x (ix2 ⟨a.val * 8 + b.val, by omega⟩ i))
      = brow x ⟨(32 + a.val) * 8 + b.val, by omega⟩ := fun a => brow_low x _ _ (by simp only []; omega)
  unfold stepGs
  rw [gs_low, gs_top, add_assoc]
  refine congrArg _ ?_
  rw [Fin.sum_univ_add (a := 32) (b := 32) (fun a : Fin 64 => gterm wg hb (brow x ⟨a.val * 8 + b.val, by omega⟩) l)]
  refine congrArg₂ _ (Finset.sum_congr rfl fun a _ => ?_) (Finset.sum_congr rfl fun a _ => ?_)
  · exact congrArg (fun u => gterm wg hb u l) (ht a)
  · exact congrArg (fun u => gterm wg hb u l) (hl a)

end Block

end Cert.KernelIdeal.Grad
-- ==== Proof.GradTotal.lean ====
module

public import proofs.«01_k».proof.Proof.ValueGrad
public import proofs.«01_k».proof.Proof.Region0
public import Idealize.ShloMosaic.Lib.ValueLayout

/-! The first call whole: the two gradients over all the rows, and the gates' sums by core and sublane. -/

@[expose] public section

set_option maxRecDepth 16384

noncomputable section

namespace Cert.KernelIdeal.Grad

open Cert.KernelIdeal.Gen
open Idealize.ShloMosaic Idealize.ShloMosaic.TcCoe Idealize.ShloMosaic.Pipeline
open Cert.Spec Cert.Scalars
open scoped BigOperators

/-- Where the windows of each point lie: block `t` of the tokens, all of the biases, the slab of the core. -/
theorem idx : ∀ t : Fin cfg0.N, win0_0.index t = ![t.val, 0] ∧ win0_1.index t = ![0, 0] ∧ win0_2.index t = ![t.val / 16, 0, 0] :=
  (by decide +kernel : ∀ t : Fin grid0.N, _)

variable (V : Dev nD → Valuation τ sig (Elt Ideal))

abbrev xV (c : Dev nD) : FVec Ideal S16384x1024 .f32 := V c main_v0
abbrev hbV (c : Dev nD) : FVec Ideal S1x3072 .f32 := V c main_v7

/-- Row `r` of block `t`. -/
abbrev brw (t : Fin cfg0.N) (r : Fin 512) : Fin 16384 :=
  ⟨t.val * 512 + r.val, by have : t.val < 32 := Nat.lt_of_lt_of_eq t.isLt N_0; omega⟩

/-- The tokens of point `t` are rows `t * 512` and on. -/
theorem blk0_at (c : Dev nD) (t : Fin cfg0.N) (r : Fin 512) (i : Fin 1024) :
    blk V c 0 t (ix2 r i) = xV V c (ix2 (brw t r) i) := by
  blk_ext [blk, (idx t).1]
  all_goals rfl

/-- Every point reads all the biases. -/
theorem blk1_at (c : Dev nD) (t : Fin cfg0.N) : blk V c 1 t = hbV V c := by
  blk_ext! [blk, (idx t).2.1]

/-- A point's core. -/
theorem core_of (t : Fin cfg0.N) : (grid0.coords t 0).val = t.val / 16 := by
  have ht : t.val < 32 := Nat.lt_of_lt_of_eq t.isLt N_0
  have e : (grid0.coords t 0).val = t.val / 16 % 2 := Pipeline.Grid.coords_val t 0 (by decide) rfl
  omega

/-- A point writes the first gradient into the slab of its core. -/
theorem off1 (t : Fin cfg0.N) : k0_off1 (grid0.coords t) = ![t.val / 16, 0, 0] := by
  have ht : t.val < 32 := Nat.lt_of_lt_of_eq t.isLt N_0
  unfold k0_off1
  simp only [core_of, BitVec.toNat_ofNat]
  rw [Nat.mod_eq_of_lt (by omega)]

/-- A point writes the second gradient into the slab of its core. -/
theorem off2 (t : Fin cfg0.N) : k0_off2 (grid0.coords t) = ![t.val / 16, 0, 0] := by
  have ht : t.val < 32 := Nat.lt_of_lt_of_eq t.isLt N_0
  unfold k0_off2
  simp only [core_of, BitVec.toNat_ofNat]
  rw [Nat.mod_eq_of_lt (by omega)]

/-- Where a core's slab lies. -/
theorem slab_emb {A B : ℕ} {sg : RefSig} (M : Memref sg .tc .hbm ⟨3, ![2, A, B]⟩ .f32) (off : Fin 3 → ℕ) (q : Fin 2) (ho : off = ![q.val, 0, 0])
    (inb : ∀ a, off a + (⟨3, ![1, A, B]⟩ : Shape).size a ≤ (⟨3, ![2, A, B]⟩ : Shape).size a) (hr)
    (hq : (⟨3, ![1, A, B]⟩ : Shape).Squeezes ⟨2, ![A, B]⟩) (p : Fin A) (j : Fin B) :
    ((M.slice (Rect.unit (s := ⟨3, ![2, A, B]⟩) off (⟨3, ![1, A, B]⟩ : Shape).size inb) hr).squeeze ⟨2, ![A, B]⟩ hq).view.emb (ix2 p j)
      = M.view.emb (ix3 q p j) := by
  subst ho
  refine congrArg M.view.emb ((congrArg (Rect.emb _) (Idealize.ShloMosaic.ValueIdx.reshapeEquiv_ix2_1ab hq.numel_eq p j)).trans ?_)
  funext a
  apply Fin.ext
  rw [Rect.emb_apply]
  match a with
  | ⟨0, _⟩ => show q.val + 1 * 0 = q.val; omega
  | ⟨1, _⟩ => show 0 + 1 * p.val = p.val; omega
  | ⟨2, _⟩ => show 0 + 1 * j.val = j.val; omega

/-- One core's slab written: that slab holds what was written, the other what it held. -/
theorem slab_write {A B : ℕ} {sg : RefSig} (M : Memref sg .tc .hbm ⟨3, ![2, A, B]⟩ .f32) (off : Fin 3 → ℕ) (q : Fin 2) (ho : off = ![q.val, 0, 0])
    (inb : ∀ a, off a + (⟨3, ![1, A, B]⟩ : Shape).size a ≤ (⟨3, ![2, A, B]⟩ : Shape).size a) (hr)
    (hq : (⟨3, ![1, A, B]⟩ : Shape).Squeezes ⟨2, ![A, B]⟩)
    (f : M.view.ty.Contents (Elt Ideal)) (g : FVec Ideal ⟨2, ![A, B]⟩ .f32) (a : Fin 2) (p : Fin A) (j : Fin B) :
    M.view.read (Elt Ideal) (View.write (Elt Ideal) ((M.slice (Rect.unit (s := ⟨3, ![2, A, B]⟩) off (⟨3, ![1, A, B]⟩ : Shape).size inb) hr).squeeze ⟨2, ![A, B]⟩ hq).view f g Finset.univ) (ix3 a p j)
      = if a = q then g (ix2 p j) else M.view.read (Elt Ideal) f (ix3 a p j) := by
  by_cases h : a = q
  · subst h
    rw [if_pos rfl]
    have e := View.read_write_univ (v := ((M.slice (Rect.unit (s := ⟨3, ![2, A, B]⟩) off (⟨3, ![1, A, B]⟩ : Shape).size inb) hr).squeeze ⟨2, ![A, B]⟩ hq).view) f g
    refine Eq.trans ?_ (congrFun e (ix2 p j))
    rw [View.read_apply, View.read_apply, slab_emb M off a ho inb hr hq p j]
  · rw [if_neg h]
    rw [View.read_apply, View.read_apply]
    refine congrArg _ (View.write_of_not_mem _ _ _ fun hm => h ?_)
    obtain ⟨x, _, hx⟩ := Finset.mem_map.mp hm
    have hx2 : x = ix2 (x 0) (x 1) := by
      funext i
      match i with
      | ⟨0, _⟩ => rfl
      | ⟨1, _⟩ => rfl
    have e := (slab_emb M off q ho inb hr hq (x 0) (x 1)).symm.trans ((congrArg _ hx2.symm).trans hx)
    exact (congrFun (M.view.emb.injective e) 0).symm

/-- Writing the first gradient changes the slab of the core and no other. -/
theorem put1_at (c : Dev nD) (t : Fin cfg0.N) (h : cond1 (grid0.coords t)) (f : FVec Ideal S2x2048x1024 .f32)
    (g : FVec Ideal S2048x1024 .f32) (q a : Fin 2) (ht : t.val / 16 = q.val) (p : Fin 2048) (j : Fin 1024) :
    put1 (F := Ideal) c (grid0.coords t) h f g (ix3 a p j) = if a = q then g (ix2 p j) else f (ix3 a p j) :=
  slab_write hbM5 _ q ((off1 t).trans (by rw [ht])) _ _ _ f g a p j

/-- Writing the second gradient changes the slab of the core and no other. -/
theorem put2_at (c : Dev nD) (t : Fin cfg0.N) (h : cond1 (grid0.coords t)) (f : FVec Ideal S2x1024x2048 .f32)
    (g : FVec Ideal S1024x2048 .f32) (q a : Fin 2) (ht : t.val / 16 = q.val) (j : Fin 1024) (p : Fin 2048) :
    put2 (F := Ideal) c (grid0.coords t) h f g (ix3 a j p) = if a = q then g (ix2 j p) else f (ix3 a j p) :=
  slab_write hbM6 _ q ((off2 t).trans (by rw [ht])) _ _ _ f g a j p

/-- Point `n`, for `n` below 32. -/
abbrev tp (n : ℕ) (h : n < 32) : Fin cfg0.N := ⟨n, Nat.lt_of_lt_of_eq h N_0.symm⟩

/-- Over the second core's first points the first gradient's array stays as the first core left it. -/
theorem w1A_hold (c : Dev nD) : ∀ n, n ≤ 15 → w1A V c (16 + n) = w1A V c 16
  | 0, _ => rfl
  | n + 1, h => (w1A_keep V c (tp (16 + n) (by omega)) (fun hc => by
      have := (hcond1 _).1 hc
      simp only at this
      omega)).trans (w1A_hold c n (by omega))

/-- Over the second core's first points the second gradient's array stays as the first core left it. -/
theorem w2A_hold (c : Dev nD) : ∀ n, n ≤ 15 → w2A V c (16 + n) = w2A V c 16
  | 0, _ => rfl
  | n + 1, h => (w2A_keep V c (tp (16 + n) (by omega)) (fun hc => by
      have := (hcond1 _).1 hc
      simp only at this
      omega)).trans (w2A_hold c n (by omega))

/-- Each core's slab of the first gradient holds the core's sum. -/
theorem slab1 (c : Dev nD) (q : Fin 2) (p : Fin 2048) (j : Fin 1024) :
    (show FVec Ideal S2x2048x1024 .f32 from w1A V c 32) (ix3 q p j)
      = (show FVec Ideal S2048x1024 .f32 from g1A V c (16 * q.val + 16)) (ix2 p j) := by
  have e1 : w1A V c 32 = _ := w1A_put V c (tp 31 (by omega)) ((hcond1 _).2 rfl)
  have e0 : w1A V c 16 = _ := w1A_put V c (tp 15 (by omega)) ((hcond1 _).2 rfl)
  have ek : w1A V c 31 = w1A V c 16 := w1A_hold V c 15 (by omega)
  rw [e1]
  refine (put1_at c _ _ _ _ 1 q rfl p j).trans ?_
  match q with
  | ⟨1, _⟩ => rfl
  | ⟨0, _⟩ =>
    rw [if_neg fun h => Nat.zero_ne_one (congrArg Fin.val h)]
    show (show FVec Ideal S2x2048x1024 .f32 from w1A V c 31) _ = _
    rw [ek, e0]
    exact (put1_at c _ _ _ _ 0 0 rfl p j).trans (if_pos rfl)

/-- Each core's slab of the second gradient holds the core's sum. -/
theorem slab2 (c : Dev nD) (q : Fin 2) (j : Fin 1024) (p : Fin 2048) :
    (show FVec Ideal S2x1024x2048 .f32 from w2A V c 32) (ix3 q j p)
      = (show FVec Ideal S1024x2048 .f32 from g2A V c (16 * q.val + 16)) (ix2 j p) := by
  have e1 : w2A V c 32 = _ := w2A_put V c (tp 31 (by omega)) ((hcond1 _).2 rfl)
  have e0 : w2A V c 16 = _ := w2A_put V c (tp 15 (by omega)) ((hcond1 _).2 rfl)
  have ek : w2A V c 31 = w2A V c 16 := w2A_hold V c 15 (by omega)
  rw [e1]
  refine (put2_at c _ _ _ _ 1 q rfl j p).trans ?_
  match q with
  | ⟨1, _⟩ => rfl
  | ⟨0, _⟩ =>
    rw [if_neg fun h => Nat.zero_ne_one (congrArg Fin.val h)]
    show (show FVec Ideal S2x1024x2048 .f32 from w2A V c 31) _ = _
    rw [ek, e0]
    exact (put2_at c _ _ _ _ 0 0 rfl j p).trans (if_pos rfl)

/-- A sum cleared every sixteen points holds, after a run of sixteen, the run's terms. -/
theorem run_sum (f g : ℕ → EReal) (h : ∀ n, n < 32 → f (n + 1) = (if n % 16 = 0 then 0 else f n) + g n) (q : Fin 2) :
    f (16 * q.val + 16) = ∑ u : Fin 16, g (16 * q.val + u.val) := by
  have k : ∀ s, s < 16 → f (16 * q.val + s + 1) = ∑ u ∈ Finset.range (s + 1), g (16 * q.val + u) := by
    intro s
    induction s with
    | zero =>
      intro _
      rw [h _ (by omega), if_pos (by omega), zero_add, Finset.sum_range_one, Nat.add_zero]
    | succ s ih =>
      intro hs
      rw [h _ (by omega), if_neg (by omega), Finset.sum_range_succ, ← ih (by omega)]
      rfl
  rw [← Finset.sum_range (fun u => g (16 * q.val + u))]
  exact k 15 (by omega)

/-- The cores' points and the points' rows are all the rows. -/
theorem rows_sum (G : Fin 16384 → EReal) :
    ∑ q : Fin 2, ∑ u : Fin 16, ∑ r : Fin 512, G (brw (pt (16 * q.val + u.val)) r) = ∑ n, G n := by
  rw [Fin.sum_univ_tiles 32 512 rfl G, Fin.sum_univ_tiles 2 16 rfl]
  refine Finset.sum_congr rfl fun q _ => Finset.sum_congr rfl fun u _ => Finset.sum_congr rfl fun r _ => congrArg G (Fin.ext ?_)
  show (16 * q.val + u.val) % 32 * 512 + r.val = (q.val * 16 + u.val) * 512 + r.val
  omega

section Rows

variable (wk wv : Fin 1024 → Fin 1024 → EReal) (m1 : Fin 2048 → Fin 1024 → EReal) (m2 : Fin 1024 → Fin 2048 → EReal)
  (x : Fin 16384 → Fin 1024 → EReal)

/-- The first gradient block by block adds up to the one over all the rows. -/
theorem rows_grad1 (p : Fin 2048) (j : Fin 1024) :
    ∑ q : Fin 2, ∑ u : Fin 16, grad1 wk wv m1 m2 (fun r : Fin 512 => x (brw (pt (16 * q.val + u.val)) r)) p j
      = grad1 wk wv m1 m2 x p j :=
  rows_sum fun n => cotH wk wv m1 m2 (x n) p * lin wk (x n) j

/-- The second gradient block by block adds up to the one over all the rows. -/
theorem rows_grad2 (j : Fin 1024) (p : Fin 2048) :
    ∑ q : Fin 2, ∑ u : Fin 16, grad2 wk wv m1 m2 (fun r : Fin 512 => x (brw (pt (16 * q.val + u.val)) r)) j p
      = grad2 wk wv m1 m2 x j p :=
  rows_sum fun n => res wk wv m1 m2 (x n) j * silu (lin m1 (lin wk (x n)) p)

end Rows

/-- Row `n` of the tokens. -/
abbrev xrow (c : Dev nD) (n : Fin 16384) : Fin 1024 → EReal := fun i => xV V c (ix2 n i)

/-- A row of a point's block is a row of the tokens. -/
theorem brow_blk (c : Dev nD) (t : Fin cfg0.N) (r : Fin 512) : brow (blk V c 0 t) r = xrow V c (brw t r) :=
  funext fun i => blk0_at V c t r i

/-- The first gradient's accumulator starts at zero. -/
theorem fill1 (y : S2048x1024.Idx) : k0_pay3 (F := Ideal) y = 0 := by pointwise [k0_pay3]
/-- The second gradient's accumulator starts at zero. -/
theorem fill2 (y : S1024x2048.Idx) : k0_pay4 (F := Ideal) y = 0 := by pointwise [k0_pay4]
/-- The gates' sums start at zero. -/
theorem fill3 (y : S1x8x3072.Idx) : k0_pay5 (F := Ideal) y = 0 := by pointwise [k0_pay5]

/-- A choice between an array that is zero at an index and another, at that index. -/
theorem ite_at {S : Shape} {φ : FTy} (p : Prop) [Decidable p] (a b : FVec Ideal S φ) (y : S.Idx) (h : a y = 0) :
    (if p then a else b) y = if p then 0 else b y := by
  split
  · exact h
  · rfl

/-- The two slabs of the first gradient add up to the gradient over all the rows. -/
theorem grad1_total (c : Dev nD) (hm : ∀ j p, m2tV V c (ix2 p j) = m2V V c (ix2 j p)) (p : Fin 2048) (j : Fin 1024) :
    ∑ q : Fin 2, (show FVec Ideal S2x2048x1024 .f32 from w1A V c 32) (ix3 q p j)
      = grad1 (kM (wkV V c)) (vM (wkV V c)) (m1M (m1tV V c)) (m2M (m2V V c)) (xrow V c) p j := by
  have e : ∀ q : Fin 2, (show FVec Ideal S2x2048x1024 .f32 from w1A V c 32) (ix3 q p j)
      = ∑ u : Fin 16, grad1 (kM (wkV V c)) (vM (wkV V c)) (m1M (m1tV V c)) (m2M (m2V V c))
          (fun r => xrow V c (brw (pt (16 * q.val + u.val)) r)) p j := fun q =>
    (slab1 V c q p j).trans (run_sum (fun n => (show FVec Ideal S2048x1024 .f32 from g1A V c n) (ix2 p j))
      (fun n => grad1 (kM (wkV V c)) (vM (wkV V c)) (m1M (m1tV V c)) (m2M (m2V V c)) (fun r => xrow V c (brw (pt n) r)) p j)
      (fun n _ => by
        refine (stepG1_at _ _ _ _ _ hm _ p j).trans (congrArg₂ _ (ite_at _ _ _ _ (fill1 _)) ?_)
        rw [show brow (blk V c 0 (pt n)) = fun r => xrow V c (brw (pt n) r) from funext fun r => brow_blk V c _ r]) q)
  exact (Finset.sum_congr rfl fun q _ => e q).trans (rows_grad1 _ _ _ _ _ p j)

/-- The two slabs of the second gradient add up to the gradient over all the rows. -/
theorem grad2_total (c : Dev nD) (hm : ∀ j p, m2tV V c (ix2 p j) = m2V V c (ix2 j p)) (j : Fin 1024) (p : Fin 2048) :
    ∑ q : Fin 2, (show FVec Ideal S2x1024x2048 .f32 from w2A V c 32) (ix3 q j p)
      = grad2 (kM (wkV V c)) (vM (wkV V c)) (m1M (m1tV V c)) (m2M (m2V V c)) (xrow V c) j p := by
  have e : ∀ q : Fin 2, (show FVec Ideal S2x1024x2048 .f32 from w2A V c 32) (ix3 q j p)
      = ∑ u : Fin 16, grad2 (kM (wkV V c)) (vM (wkV V c)) (m1M (m1tV V c)) (m2M (m2V V c))
          (fun r => xrow V c (brw (pt (16 * q.val + u.val)) r)) j p := fun q =>
    (slab2 V c q j p).trans (run_sum (fun n => (show FVec Ideal S1024x2048 .f32 from g2A V c n) (ix2 j p))
      (fun n => grad2 (kM (wkV V c)) (vM (wkV V c)) (m1M (m1tV V c)) (m2M (m2V V c)) (fun r => xrow V c (brw (pt n) r)) j p)
      (fun n _ => by
        refine (stepG2_at _ _ _ _ (m2V V c) hm _ j p).trans (congrArg₂ _ (ite_at _ _ _ _ (fill2 _)) ?_)
        rw [show brow (blk V c 0 (pt n)) = fun r => xrow V c (brw (pt n) r) from funext fun r => brow_blk V c _ r]) q)
  exact (Finset.sum_congr rfl fun q _ => e q).trans (rows_grad2 _ _ _ _ _ j p)

/-- The gates' sums of core `q` in sublane `b` and lane `l`: its rows that are `b` modulo 8. -/
def gsub (wg : FVec Ideal S1024x3072 .fp8e4m3) (hb : FVec Ideal S1x3072 .f32) (x : Fin 16384 → Fin 1024 → EReal)
    (q : Fin 2) (b : Fin 8) (l : Fin 3072) : EReal :=
  ∑ u : Fin 16, ∑ a : Fin 64, gterm wg hb (x (brw (pt (16 * q.val + u.val)) ⟨a.val * 8 + b.val, by omega⟩)) l

/-- The gates' sums when a core has done its points. -/
theorem gates_core (c : Dev nD) (q : Fin 2) (b : Fin 8) (l : Fin 3072) :
    (show FVec Ideal S1x8x3072 .f32 from gsA V c (16 * q.val + 16)) (ix3 0 b l)
      = gsub (wgV V c) (hbV V c) (xrow V c) q b l :=
  run_sum (fun n => (show FVec Ideal S1x8x3072 .f32 from gsA V c n) (ix3 0 b l))
    (fun n => ∑ a : Fin 64, gterm (wgV V c) (hbV V c) (xrow V c (brw (pt n) ⟨a.val * 8 + b.val, by omega⟩)) l)
    (fun n _ => by
      refine (stepGs_at _ _ _ _ b l).trans (congrArg₂ _ (ite_at _ _ _ _ (fill3 _)) ?_)
      refine Finset.sum_congr rfl fun a _ => ?_
      rw [blk1_at, brow_blk]) q

/-- The gates' sums after the call: core `q`, sublane `b`, lane `l`. -/
theorem gates_final (c : Dev nD) : (dat V c).arrAt 2 cfg0.N
    = fun y : S2x8x3072.Idx => gsub (wgV V c) (hbV V c) (xrow V c) (y 0) (y 1) (y 2) := by
  refine (dat V c).arrAt_eq_of_covers 2 _ (by decide +kernel) fun t hf y => ?_
  have hq : t.val % 16 = 15 :=
    (show ∀ t : Fin cfg0.N, (cfg0.win 2).flush t = true → t.val % 16 = 15 by decide +kernel) t hf
  have ht : t.val < 32 := Nat.lt_of_lt_of_eq t.isLt N_0
  have hn : t.val + 1 = 16 * (⟨t.val / 16, by omega⟩ : Fin 2).val + 16 := by simp only; omega
  have e : ((cfg0.win 2).blk t).view.emb y = ix3 (⟨t.val / 16, by omega⟩ : Fin 2) (y 1) (y 2) := by
    blk_ext [(idx t).2.2]
    all_goals rfl
  blk_simp
  rw [after_2]
  refine Eq.trans ?_ ((gates_core V c ⟨t.val / 16, by omega⟩ (y 1) (y 2)).trans
    (congrArg (fun z : S2x8x3072.Idx => gsub (wgV V c) (hbV V c) (xrow V c) (z 0) (z 1) (z 2)) e).symm)
  rw [hn]
  refine congrArg (show FVec Ideal S1x8x3072 .f32 from gsA V c _) (funext fun a => ?_)
  match a with
  | ⟨0, _⟩ => exact Subsingleton.elim (α := Fin 1) _ _
  | ⟨1, _⟩ => rfl
  | ⟨2, _⟩ => rfl

end Cert.KernelIdeal.Grad
-- ==== Proof.ValueUpd.lean ====
module

public import proofs.«01_k».proof.Proof.Region1
public import proofs.«01_k».proof.Proof.Spec
public import proofs.«01_k».proof.Proof.Stores

/-! The second call's output arrays at an index: the updated matrices from the gate sums and the two cores' gradients. -/

@[expose] public section

set_option maxRecDepth 16384

noncomputable section

namespace Cert.KernelIdeal.Upd

open Cert.KernelIdeal.Gen
open Idealize.ShloMosaic Idealize.ShloMosaic.TcCoe
open Cert.Spec Cert.Scalars
open scoped BigOperators

/-- A gate from the sums of the hyperbolic tangents: one half plus half their mean, over the lanes from `lo` on. -/
def gsum (lo : ℕ) (hlo : lo + 1024 ≤ 3072) (g : FVec Ideal S2x8x3072 .f32) : EReal :=
  hf + Ideal.div (hf * ∑ a : Fin 2, ∑ b : Fin 8, ∑ l : Fin 1024, g (ix3 a b ⟨lo + l, by omega⟩))
    (Ideal.ofBits .f32 0x4B800000#32)

/-- The forget gate out of the sums. -/
theorem pay4_at (g : FVec Ideal S2x8x3072 .f32) : k1_pay4 (F := Ideal) g = gsum 0 (by omega) g := by
  unfold gsum
  pointwise [k1_pay4, k1_pay3]
  rw [Ideal.reduceAdd_total _ (by decide), sum_idx4]
  pointwise
  simp only [Finset.univ_unique, Finset.sum_singleton]

/-- The learning-rate gate out of the sums. -/
theorem pay5_at (g : FVec Ideal S2x8x3072 .f32) : k1_pay5 (F := Ideal) g = gsum 1024 (by omega) g := by
  unfold gsum
  pointwise [k1_pay5, k1_pay3]
  rw [Ideal.reduceAdd_total _ (by decide), sum_idx4]
  pointwise
  simp only [Finset.univ_unique, Finset.sum_singleton]

/-- The momentum gate out of the sums. -/
theorem pay6_at (g : FVec Ideal S2x8x3072 .f32) : k1_pay6 (F := Ideal) g = gsum 2048 (by omega) g := by
  unfold gsum
  pointwise [k1_pay6, k1_pay3]
  rw [Ideal.reduceAdd_total _ (by decide), sum_idx4]
  pointwise
  simp only [Finset.univ_unique, Finset.sum_singleton]

/-- The first matrix's stored rows at an index. -/
theorem out9_at (x0 : FVec Ideal S2x8x3072 .f32) (x1 x2 : FVec Ideal S256x1024 .f32) (x3 x4 : FVec Ideal S1x256x1024 .f32)
    (x5 x6 : FVec Ideal S128x2048 .f32) (x7 x8 : FVec Ideal S1x128x2048 .f32) (y : S256x1024.Idx) :
    out9 (F := Ideal) x0 x1 x2 x3 x4 x5 x6 x7 x8 y
      = upd (gsum 0 (by omega) x0) (gsum 1024 (by omega) x0) (gsum 2048 (by omega) x0) (x1 y) (x2 y)
          (x3 (ix3 0 (y 0) (y 1)) + x4 (ix3 0 (y 0) (y 1))) := by
  unfold out9
  rw [Cert.Stores.canon_full]
  simp only [Cert.Stores.ld_full]
  idx_vars y
  pointwise [k1_pay1, k1_pay7, k1_pay8, pay4_at, pay5_at, pay6_at, upd]

/-- The second matrix's stored rows at an index. -/
theorem out10_at (x0 : FVec Ideal S2x8x3072 .f32) (x1 x2 : FVec Ideal S256x1024 .f32) (x3 x4 : FVec Ideal S1x256x1024 .f32)
    (x5 x6 : FVec Ideal S128x2048 .f32) (x7 x8 : FVec Ideal S1x128x2048 .f32) (y : S128x2048.Idx) :
    out10 (F := Ideal) x0 x1 x2 x3 x4 x5 x6 x7 x8 y
      = upd (gsum 0 (by omega) x0) (gsum 1024 (by omega) x0) (gsum 2048 (by omega) x0) (x5 y) (x6 y)
          (x7 (ix3 0 (y 0) (y 1)) + x8 (ix3 0 (y 0) (y 1))) := by
  unfold out10
  rw [Cert.Stores.canon_full]
  simp only [Cert.Stores.ld_full]
  idx_vars y
  pointwise [k1_pay2, pay4_at, pay5_at, pay6_at, upd]

/-- The windows' index maps at every point. -/
theorem idx : ∀ t : Fin cfg1.N, win1_0.index t = ![0, 0, 0] ∧ win1_1.index t = ![t.val, 0] ∧ win1_2.index t = ![t.val, 0]
    ∧ win1_3.index t = ![0, t.val, 0] ∧ win1_4.index t = ![1, t.val, 0] ∧ win1_5.index t = ![t.val, 0]
    ∧ win1_6.index t = ![t.val, 0] ∧ win1_7.index t = ![0, t.val, 0] ∧ win1_8.index t = ![1, t.val, 0]
    ∧ win1_9.index t = ![t.val, 0] ∧ win1_10.index t = ![t.val, 0] :=
  (by decide +kernel : ∀ t : Fin grid1.N, _)

variable (V : Dev nD → Valuation τ sig (Elt Ideal))

/-- The gate array at the call's entry. -/
abbrev gsV (c : Dev nD) : FVec Ideal S2x8x3072 .f32 := V c main_v16_0

/-- Every point reads all the gates' sums. -/
theorem blk0 (c : Dev nD) (t : Fin cfg1.N) : blk V c 0 t = gsV V c := by
  blk_ext! [blk, idx t]

/-- Row `t.val * 256 + r` of the first matrix. -/
abbrev row9 (t : Fin cfg1.N) (y : S256x1024.Idx) : S2048x1024.Idx :=
  ix2 ⟨t.val * 256 + (y 0).val, by have : t.val < 8 := Nat.lt_of_lt_of_eq t.isLt N_1; have := (show (y 0).val < 256 from (y 0).isLt); omega⟩ (y 1)

/-- Row `t.val * 128 + r` of the second matrix. -/
abbrev row10 (t : Fin cfg1.N) (y : S128x2048.Idx) : S1024x2048.Idx :=
  ix2 ⟨t.val * 128 + (y 0).val, by have : t.val < 8 := Nat.lt_of_lt_of_eq t.isLt N_1; have := (show (y 0).val < 128 from (y 0).isLt); omega⟩ (y 1)

/-- A point's rows of the first matrix. -/
theorem blk1 (c : Dev nD) (t : Fin cfg1.N) (y : S256x1024.Idx) :
    blk V c 1 t y = V c main_arg11 (row9 t y) := by
  blk_ext [blk, (idx t).2.1]
  all_goals rfl
/-- A point's rows of the first momentum. -/
theorem blk2 (c : Dev nD) (t : Fin cfg1.N) (y : S256x1024.Idx) :
    blk V c 2 t y = V c main_arg13 (row9 t y) := by
  blk_ext [blk, (idx t).2.2.1]
  all_goals rfl
/-- A point's rows of the first gradient, the first core's. -/
theorem blk3 (c : Dev nD) (t : Fin cfg1.N) (y : S256x1024.Idx) :
    blk V c 3 t (ix3 0 (y 0) (y 1)) = V c main_v16_1 (ix3 0 (row9 t y 0) (row9 t y 1)) := by
  blk_ext [blk, (idx t).2.2.2.1]
  all_goals rfl
/-- A point's rows of the first gradient, the second core's. -/
theorem blk4 (c : Dev nD) (t : Fin cfg1.N) (y : S256x1024.Idx) :
    blk V c 4 t (ix3 0 (y 0) (y 1)) = V c main_v16_1 (ix3 1 (row9 t y 0) (row9 t y 1)) := by
  blk_ext [blk, (idx t).2.2.2.2.1]
  all_goals rfl
/-- Where a point writes the first matrix. -/
theorem emb9 (t : Fin cfg1.N) (y : S256x1024.Idx) : ((cfg1.win 9).blk t).view.emb y = row9 t y := by
  blk_ext [(idx t).2.2.2.2.2.2.2.2.2.1]
  all_goals rfl
/-- A point's rows of the second matrix. -/
theorem blk5 (c : Dev nD) (t : Fin cfg1.N) (y : S128x2048.Idx) :
    blk V c 5 t y = V c main_arg12 (row10 t y) := by
  blk_ext [blk, (idx t).2.2.2.2.2.1]
  all_goals rfl
/-- A point's rows of the second momentum. -/
theorem blk6 (c : Dev nD) (t : Fin cfg1.N) (y : S128x2048.Idx) :
    blk V c 6 t y = V c main_arg14 (row10 t y) := by
  blk_ext [blk, (idx t).2.2.2.2.2.2.1]
  all_goals rfl
/-- A point's rows of the second gradient, the first core's. -/
theorem blk7 (c : Dev nD) (t : Fin cfg1.N) (y : S128x2048.Idx) :
    blk V c 7 t (ix3 0 (y 0) (y 1)) = V c main_v16_2 (ix3 0 (row10 t y 0) (row10 t y 1)) := by
  blk_ext [blk, (idx t).2.2.2.2.2.2.2.1]
  all_goals rfl
/-- A point's rows of the second gradient, the second core's. -/
theorem blk8 (c : Dev nD) (t : Fin cfg1.N) (y : S128x2048.Idx) :
    blk V c 8 t (ix3 0 (y 0) (y 1)) = V c main_v16_2 (ix3 1 (row10 t y 0) (row10 t y 1)) := by
  blk_ext [blk, (idx t).2.2.2.2.2.2.2.2.1]
  all_goals rfl
/-- Where a point writes the second matrix. -/
theorem emb10 (t : Fin cfg1.N) (y : S128x2048.Idx) : ((cfg1.win 10).blk t).view.emb y = row10 t y := by
  blk_ext [(idx t).2.2.2.2.2.2.2.2.2.2]
  all_goals rfl

/-- The first matrix after the call, at an index. -/
theorem final9 (c : Dev nD) : (dat V c).arrAt 9 cfg1.N
    = fun y : S2048x1024.Idx => upd (gsum 0 (by omega) (gsV V c)) (gsum 1024 (by omega) (gsV V c))
        (gsum 2048 (by omega) (gsV V c))
        ((show FVec Ideal S2048x1024 .f32 from V c main_arg11) y) ((show FVec Ideal S2048x1024 .f32 from V c main_arg13) y)
        ((show FVec Ideal S2x2048x1024 .f32 from V c main_v16_1) (ix3 0 (y 0) (y 1))
          + (show FVec Ideal S2x2048x1024 .f32 from V c main_v16_1) (ix3 1 (y 0) (y 1))) := by
  refine (dat V c).arrAt_eq_of_covers 9 _ (by decide +kernel) fun t _ y => ?_
  blk_simp
  rw [after_9, blk0]
  refine (out9_at _ _ _ _ _ _ _ _ _ y).trans ?_
  rw [emb9]
  exact upd_congr (blk1 V c t y) (blk2 V c t y) (blk3 V c t y) (blk4 V c t y)

/-- The second matrix after the call, at an index. -/
theorem final10 (c : Dev nD) : (dat V c).arrAt 10 cfg1.N
    = fun y : S1024x2048.Idx => upd (gsum 0 (by omega) (gsV V c)) (gsum 1024 (by omega) (gsV V c))
        (gsum 2048 (by omega) (gsV V c))
        ((show FVec Ideal S1024x2048 .f32 from V c main_arg12) y) ((show FVec Ideal S1024x2048 .f32 from V c main_arg14) y)
        ((show FVec Ideal S2x1024x2048 .f32 from V c main_v16_2) (ix3 0 (y 0) (y 1))
          + (show FVec Ideal S2x1024x2048 .f32 from V c main_v16_2) (ix3 1 (y 0) (y 1))) := by
  refine (dat V c).arrAt_eq_of_covers 10 _ (by decide +kernel) fun t _ y => ?_
  blk_simp
  rw [after_10, blk0]
  refine (out10_at _ _ _ _ _ _ _ _ _ y).trans ?_
  rw [emb10]
  exact upd_congr (blk5 V c t y) (blk6 V c t y) (blk7 V c t y) (blk8 V c t y)

end Cert.KernelIdeal.Upd
-- ==== Proof.ValueRet.lean ====
module

public import proofs.«01_k».proof.Proof.Region2
public import proofs.«01_k».proof.Proof.Spec

/-! The third call's output array at an index: the retrieval of the row. -/

@[expose] public section

set_option maxRecDepth 16384

noncomputable section

namespace Cert.KernelIdeal.Ret

open Cert.KernelIdeal.Gen
open Idealize.ShloMosaic Idealize.ShloMosaic.TcCoe
open Cert.Spec Cert.Scalars

/-- The upper half's payload at an index. -/
theorem pay_top (x : FVec Ideal S512x1024 .f32) (wq : FVec Ideal S1024x1024 .bf16) (m1 : FVec Ideal S2048x1024 .bf16)
    (m2 : FVec Ideal S1024x2048 .bf16) (wo : FVec Ideal S1024x1024 .bf16) (r : Fin 512) (o : Fin 1024) :
    k2_pay2 (F := Ideal) x wq m1 m2 wo (ix2 r o)
      = retr (fun a b => wq (ix2 a b)) (fun a b => wo (ix2 a b)) (fun a b => m1 (ix2 a b)) (fun a b => m2 (ix2 a b))
          (fun i => x (ix2 r i)) o := by
  unfold retr mem silu lin
  pointwise [k2_pay2]
  simp only [logistic_tanh]

/-- The lower half's payload at an index. -/
theorem pay_low (x : FVec Ideal S512x1024 .f32) (wq : FVec Ideal S1024x1024 .bf16) (m1 : FVec Ideal S2048x1024 .bf16)
    (m2 : FVec Ideal S1024x2048 .bf16) (wo : FVec Ideal S1024x1024 .bf16) (r : Fin 512) (o : Fin 1024) :
    k2_pay1 (F := Ideal) (k2_pay3 x) wq m1 m2 wo (ix2 r o)
      = retr (fun a b => wq (ix2 a b)) (fun a b => wo (ix2 a b)) (fun a b => m1 (ix2 a b)) (fun a b => m2 (ix2 a b))
          (fun i => x (ix2 r i)) o := by
  unfold retr mem silu lin
  pointwise [k2_pay1, k2_pay3]
  simp only [logistic_tanh]

/-- The output block at an index: the retrieval of its row. -/
theorem out3_at (xx : FVec Ideal S1024x1024 .f32) (x1 x2 : FVec Ideal S1024x1024 .bf16) (w1 : FVec Ideal S2048x1024 .bf16)
    (w2 : FVec Ideal S1024x2048 .bf16) (y : S1024x1024.Idx) :
    out3 (F := Ideal) xx x1 x2 w1 w2 y
      = retr (fun a b => x1 (ix2 a b)) (fun a b => x2 (ix2 a b)) (fun a b => w1 (ix2 a b)) (fun a b => w2 (ix2 a b))
          (fun i => xx (ix2 (y 0) i)) (y 1) := by
  unfold out3
  canon_tiles x h
  · idx_vars x
    refine (pay_low _ _ _ _ _ x0 x1).trans (retr_congr ?_ ?_ ?_ ?_ ?_ ?_)
    · intro a b; pointwise
    · intro a b; pointwise
    · intro a b; pointwise
    · intro a b; pointwise
    · intro a; pointwise
      exact congrArg (fun r : Fin 1024 => xx (ix2 r a)) (Fin.ext h0.symm)
    · exact Fin.ext h1.symm
  · idx_vars x
    refine (pay_top _ _ _ _ _ x0 x1).trans (retr_congr ?_ ?_ ?_ ?_ ?_ ?_)
    · intro a b; pointwise
    · intro a b; pointwise
    · intro a b; pointwise
    · intro a b; pointwise
    · intro a; pointwise
      exact congrArg (fun r : Fin 1024 => xx (ix2 r a)) (Fin.ext h0.symm)
    · exact Fin.ext h1.symm

/-- The windows' index maps at every point. -/
theorem idx : ∀ t : Fin cfg2.N, win2_0.index t = ![t.val, 0] ∧ win2_1.index t = ![0, 0] ∧ win2_2.index t = ![0, 0]
    ∧ win2_3.index t = ![t.val, 0] :=
  (by decide +kernel : ∀ t : Fin grid2.N, _)

variable (V : Dev nD → Valuation τ sig (Elt Ideal))

/-- The output array after the call, at an index: the retrieval of its row. -/
theorem final (c : Dev nD) : (dat V c).arrAt 3 cfg2.N
    = fun y : S16384x1024.Idx => retr (fun a b => (show FVec Ideal S1024x1024 .bf16 from V c main_v18) (ix2 a b))
        (fun a b => (show FVec Ideal S1024x1024 .bf16 from V c main_v19) (ix2 a b))
        (fun a b => (show FVec Ideal S2048x1024 .bf16 from V c main_v17_0) (ix2 a b))
        (fun a b => (show FVec Ideal S1024x2048 .bf16 from V c main_v17_1) (ix2 a b))
        (fun i => (show FVec Ideal S16384x1024 .f32 from V c main_v0) (ix2 (y 0) i)) (y 1) := by
  refine (dat V c).arrAt_eq_of_covers 3 _ (by decide +kernel) fun t _ y => ?_
  blk_simp
  rw [after_3]
  refine (out3_at _ _ _ _ _ y).trans ?_
  refine retr_congr ?_ ?_ ?_ ?_ ?_ ?_
  · intro a b; blk_ext [blk, idx t]
  · intro a b; blk_ext [blk, idx t]
  · intro a b; rfl
  · intro a b; rfl
  · intro a; blk_ext [blk, idx t]
  · apply Fin.ext
    blk_simp [idx t]

end Cert.KernelIdeal.Ret
-- ==== Proof.Target.lean ====
module

public import proofs.«01_k».proof.Proof.Spec
public import Idealize.ShloMosaic.Lib.Pipeline.ValueKit

/-! The one closed form both programs are shown to compute, over the fifteen arrays. -/

@[expose] public section

noncomputable section

namespace Cert.Target

open Idealize.ShloMosaic
open Cert.Spec Cert.Scalars
open scoped BigOperators

/-- The arrays' shapes: tokens, square weights, biases, and the two memory matrices. -/
abbrev SX : Shape := ⟨3, ![4, 4096, 1024]⟩
abbrev SW : Shape := ⟨2, ![1024, 1024]⟩
abbrev SB : Shape := ⟨1, ![1024]⟩
abbrev S1 : Shape := ⟨2, ![2048, 1024]⟩
abbrev S2 : Shape := ⟨2, ![1024, 2048]⟩

/-- A matrix by row and column. -/
abbrev mat {a b : ℕ} (w : FVec Ideal ⟨2, ![a, b]⟩ .f32) : Fin a → Fin b → EReal := fun i j => w (ix2 i j)
/-- A vector by its index. -/
abbrev vct {a : ℕ} (w : FVec Ideal ⟨1, ![a]⟩ .f32) : Fin a → EReal := fun i => w (ix1 i)
/-- Token `n` of all the batches. -/
def tok (x : FVec Ideal SX .f32) (n : Fin 16384) : Fin 1024 → EReal :=
  fun i => x (ix3 ⟨n.val / 4096, by omega⟩ ⟨n.val % 4096, by omega⟩ i)

variable (x : FVec Ideal SX .f32) (Wk Wv Wq Wout Wgd : FVec Ideal SW .f32) (bgd : FVec Ideal SB .f32)
  (Wgl : FVec Ideal SW .f32) (bgl : FVec Ideal SB .f32) (Wgm : FVec Ideal SW .f32) (bgm : FVec Ideal SB .f32)
  (M1 : FVec Ideal S1 .f32) (M2 : FVec Ideal S2 .f32) (P1 : FVec Ideal S1 .f32) (P2 : FVec Ideal S2 .f32)

/-- The first matrix updated: forget gate, learning-rate gate, momentum gate, and the gradient over all the tokens. -/
def new1 (p : Fin 2048) (j : Fin 1024) : EReal :=
  upd (gate (mat Wgd) (vct bgd) (tok x)) (gate (mat Wgl) (vct bgl) (tok x)) (gate (mat Wgm) (vct bgm) (tok x))
    (M1 (ix2 p j)) (P1 (ix2 p j)) (grad1 (mat Wk) (mat Wv) (mat M1) (mat M2) (tok x) p j)

/-- The second matrix updated. -/
def new2 (j : Fin 1024) (p : Fin 2048) : EReal :=
  upd (gate (mat Wgd) (vct bgd) (tok x)) (gate (mat Wgl) (vct bgl) (tok x)) (gate (mat Wgm) (vct bgm) (tok x))
    (M2 (ix2 j p)) (P2 (ix2 j p)) (grad2 (mat Wk) (mat Wv) (mat M1) (mat M2) (tok x) j p)

/-- The result: every token retrieved from the updated memory. -/
def out (b : Fin 4) (s : Fin 4096) (o : Fin 1024) : EReal :=
  retr (mat Wq) (mat Wout) (new1 x Wk Wv Wgd bgd Wgl bgl Wgm bgm M1 M2 P1) (new2 x Wk Wv Wgd bgd Wgl bgl Wgm bgm M1 M2 P2)
    (fun i => x (ix3 b s i)) o

end Cert.Target
-- ==== Proof.KernelValue.lean ====
module

public import proofs.«01_k».proof.Proof.Prefix
public import proofs.«01_k».proof.Proof.GradTotal
public import proofs.«01_k».proof.Proof.ValueUpd
public import proofs.«01_k».proof.Proof.ValueRet
public import proofs.«01_k».proof.Proof.Target

/-! The kernel's result, at an index, is the closed form: the three calls and the host's preparation put together. -/

@[expose] public section

set_option maxRecDepth 16384

noncomputable section

namespace Cert.KernelIdeal.Whole

open Cert.KernelIdeal.Gen
open Idealize.ShloMosaic Idealize.ShloMosaic.TcCoe
open Cert.Spec Cert.Scalars Cert.Target
open scoped BigOperators

/-- The cores' sublanes and points run through all the tokens. -/
theorem tokens_sum (T : Fin 16384 → Fin 1024 → EReal) :
    ∑ q : Fin 2, ∑ b : Fin 8, ∑ l : Fin 1024, ∑ u : Fin 16, ∑ a : Fin 64,
        T (Grad.brw (Grad.pt (16 * q.val + u.val)) ⟨a.val * 8 + b.val, by omega⟩) l
      = ∑ n, ∑ l, T n l := by
  rw [← Grad.rows_sum fun n => ∑ l, T n l]
  refine Finset.sum_congr rfl fun q _ => ?_
  have h1 : ∀ b : Fin 8, ∑ l : Fin 1024, ∑ u : Fin 16, ∑ a : Fin 64,
        T (Grad.brw (Grad.pt (16 * q.val + u.val)) ⟨a.val * 8 + b.val, by omega⟩) l
      = ∑ u : Fin 16, ∑ a : Fin 64, ∑ l : Fin 1024,
        T (Grad.brw (Grad.pt (16 * q.val + u.val)) ⟨a.val * 8 + b.val, by omega⟩) l := fun b => by
    rw [Finset.sum_comm]
    exact Finset.sum_congr rfl fun u _ => Finset.sum_comm
  rw [Finset.sum_congr rfl fun b _ => h1 b, Finset.sum_comm]
  refine Finset.sum_congr rfl fun u _ => ?_
  rw [Finset.sum_comm, Fin.sum_univ_tiles 64 8 rfl]

variable (m : (ℓ : Loc nD τ sig) → Buf (Elt Ideal) ℓ) (c : Dev nD)

/-- Row `n` of the flattened tokens is token `n`. -/
theorem xrow_eq (n : Fin 16384) : Grad.xrow (X1 m) c n = tok (arg m c main_arg0) n :=
  funext fun i => X1_v0 m c n i

/-- One gate out of the first call's sums: the mean over the tokens and lanes of the logistic. -/
theorem gate_of (lo : ℕ) (hlo : lo + 1024 ≤ 3072) (W : FVec Ideal SW .f32) (B : FVec Ideal SB .f32)
    (hW : ∀ i j : Fin 1024, (show FVec Ideal S1024x3072 .fp8e4m3 from X1 m c main_v3) (ix2 i ⟨lo + j.val, by omega⟩) = W (ix2 j i))
    (hB : ∀ j : Fin 1024, (show FVec Ideal S1x3072 .f32 from X1 m c main_v7) (ix2 0 ⟨lo + j.val, by omega⟩) = hf * B (ix1 j)) :
    Upd.gsum lo hlo (Upd.gsV (X2 m) c) = gate (mat W) (vct B) (tok (arg m c main_arg0)) := by
  rw [gate_tanh (by simp)]
  unfold Upd.gsum
  refine congrArg (fun z => hf + Ideal.div (hf * z) (Ideal.ofBits .f32 0x4B800000#32)) ?_
  rw [← tokens_sum]
  refine Finset.sum_congr rfl fun q _ => Finset.sum_congr rfl fun b _ => Finset.sum_congr rfl fun l _ => ?_
  have e : Upd.gsV (X2 m) c = _ := (X2_v16_0 m c).trans (Grad.gates_final (X1 m) c)
  rw [e]
  show Grad.gsub _ _ _ q b ⟨lo + l.val, _⟩ = _
  unfold Grad.gsub
  refine Finset.sum_congr rfl fun u _ => Finset.sum_congr rfl fun a _ => ?_
  rw [xrow_eq]
  unfold Grad.gterm lin
  refine congrArg Ideal.tanh (congrArg₂ _ (congrArg _ (Finset.sum_congr rfl fun i _ => congrArg _ (hW i l))) (hB l))

/-- The forget gate. -/
theorem gate_0 : Upd.gsum 0 (by omega) (Upd.gsV (X2 m) c)
    = gate (mat (arg m c main_arg5)) (vct (arg m c main_arg6)) (tok (arg m c main_arg0)) :=
  gate_of m c 0 (by omega) _ _
    (fun i j => (congrArg (fun a : Fin 3072 => (show FVec Ideal S1024x3072 .fp8e4m3 from X1 m c main_v3) (ix2 i a)) (Fin.ext (Nat.zero_add _))).trans (X1_v3_0 m c i j))
    (fun j => (congrArg (fun a : Fin 3072 => (show FVec Ideal S1x3072 .f32 from X1 m c main_v7) (ix2 0 a)) (Fin.ext (Nat.zero_add _))).trans (X1_v7_0 m c j))
/-- The learning-rate gate. -/
theorem gate_1 : Upd.gsum 1024 (by omega) (Upd.gsV (X2 m) c)
    = gate (mat (arg m c main_arg7)) (vct (arg m c main_arg8)) (tok (arg m c main_arg0)) :=
  gate_of m c 1024 (by omega) _ _ (X1_v3_1 m c) (X1_v7_1 m c)
/-- The momentum gate. -/
theorem gate_2 : Upd.gsum 2048 (by omega) (Upd.gsV (X2 m) c)
    = gate (mat (arg m c main_arg9)) (vct (arg m c main_arg10)) (tok (arg m c main_arg0)) :=
  gate_of m c 2048 (by omega) _ _ (X1_v3_2 m c) (X1_v7_2 m c)

/-- The first call's key projection is the argument Wk. -/
theorem kM_eq : Grad.kM (Grad.wkV (X1 m) c) = mat (arg m c main_arg1) := funext₂ fun j i => X1_v10_0 m c i j
/-- The first call's value projection is the argument Wv. -/
theorem vM_eq : Grad.vM (Grad.wkV (X1 m) c) = mat (arg m c main_arg2) := funext₂ fun j i => X1_v10_1 m c i j
/-- The first call's first matrix is the argument M1. -/
theorem m1M_eq : Grad.m1M (Grad.m1tV (X1 m) c) = mat (arg m c main_arg11) := funext₂ fun p j => X1_v12 m c j p
/-- The first call's second matrix is the argument M2. -/
theorem m2M_eq : Grad.m2M (Grad.m2V (X1 m) c) = mat (arg m c main_arg12) := funext₂ fun j p => X1_v15 m c j p
/-- The first call gets the second matrix twice, once transposed: the two agree. -/
theorem m2_twice (j : Fin 1024) (p : Fin 2048) :
    Grad.m2tV (X1 m) c (ix2 p j) = Grad.m2V (X1 m) c (ix2 j p) := (X1_v14 m c j p).trans (X1_v15 m c j p).symm
/-- The first call's rows are the tokens. -/
theorem xrows_eq : Grad.xrow (X1 m) c = tok (arg m c main_arg0) := funext fun n => xrow_eq m c n

/-- An argument that no host operation and no result of the first call writes is still as it was after that call. -/
theorem X2_arg (r : Ref sig .tc) (h1 : r ∉ ([main_v16_0, main_v16_1, main_v16_2] : List (Ref sig .tc))) (h0 : r ∉ hostOps0_W) :
    X2 m c r = arg m c r := (X2_of m c r h1).trans (X1_of m c r h0)

/-- The first matrix the third call reads. -/
theorem new1_eq (p : Fin 2048) (j : Fin 1024) : (show FVec Ideal S2048x1024 .bf16 from X4 m c main_v17_0) (ix2 p j)
    = new1 (arg m c main_arg0) (arg m c main_arg1) (arg m c main_arg2) (arg m c main_arg5) (arg m c main_arg6) (arg m c main_arg7)
        (arg m c main_arg8) (arg m c main_arg9) (arg m c main_arg10) (arg m c main_arg11) (arg m c main_arg12) (arg m c main_arg13) p j := by
  have e : X4 m c main_v17_0 = _ := (X4_of m c main_v17_0 (by decide)).trans ((X3_v17_0 m c).trans (Upd.final9 (X2 m) c))
  refine (congrFun e (ix2 p j)).trans ?_
  unfold new1
  have eg := Grad.grad1_total (X1 m) c (m2_twice m c) p j
  rw [kM_eq, vM_eq, m1M_eq, m2M_eq, xrows_eq, Fin.sum_univ_two, ← X2_v16_1] at eg
  rw [← gate_0, ← gate_1, ← gate_2, ← eg]
  refine upd_congr ?_ ?_ rfl rfl
  · exact congrFun (X2_arg m c main_arg11 (by decide) (by decide)) (ix2 p j)
  · exact congrFun (X2_arg m c main_arg13 (by decide) (by decide)) (ix2 p j)

/-- The second matrix the third call reads. -/
theorem new2_eq (j : Fin 1024) (p : Fin 2048) : (show FVec Ideal S1024x2048 .bf16 from X4 m c main_v17_1) (ix2 j p)
    = new2 (arg m c main_arg0) (arg m c main_arg1) (arg m c main_arg2) (arg m c main_arg5) (arg m c main_arg6) (arg m c main_arg7)
        (arg m c main_arg8) (arg m c main_arg9) (arg m c main_arg10) (arg m c main_arg11) (arg m c main_arg12) (arg m c main_arg14) j p := by
  have e : X4 m c main_v17_1 = _ := (X4_of m c main_v17_1 (by decide)).trans ((X3_v17_1 m c).trans (Upd.final10 (X2 m) c))
  refine (congrFun e (ix2 j p)).trans ?_
  unfold new2
  have eg := Grad.grad2_total (X1 m) c (m2_twice m c) j p
  rw [kM_eq, vM_eq, m1M_eq, m2M_eq, xrows_eq, Fin.sum_univ_two, ← X2_v16_2] at eg
  rw [← gate_0, ← gate_1, ← gate_2, ← eg]
  refine upd_congr ?_ ?_ rfl rfl
  · exact congrFun (X2_arg m c main_arg12 (by decide) (by decide)) (ix2 j p)
  · exact congrFun (X2_arg m c main_arg14 (by decide) (by decide)) (ix2 j p)

/-- The kernel's result at an index. -/
theorem result_eq (b : Fin 4) (s : Fin 4096) (o : Fin 1024) : (show FVec Ideal S4x4096x1024 .f32 from X6 m c main_v21) (ix3 b s o)
    = out (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11)
        (arg m c main_arg12) (arg m c main_arg13) (arg m c main_arg14) b s o := by
  refine (X6_v21 m c b s o).trans ?_
  have e : X5 m c main_v20 = _ := (X5_v20 m c).trans (Ret.final (X4 m) c)
  refine (congrFun e (ix2 _ o)).trans ?_
  unfold out
  refine retr_congr (X4_v18 m c) (X4_v19 m c) (new1_eq m c) (new2_eq m c) (fun i => ?_) rfl
  have e0 : X4 m c main_v0 = X1 m c main_v0 :=
    (X4_of m c main_v0 (by decide)).trans ((X3_of m c main_v0 (by decide)).trans (X2_of m c main_v0 (by decide)))
  refine (congrFun e0 (ix2 _ i)).trans ((X1_v0 m c _ i).trans ?_)
  refine congrArg₂ (fun (u : Fin 4) (v : Fin 4096) => (show FVec Ideal S4x4096x1024 .f32 from arg m c main_arg0) (ix3 u v i)) (Fin.ext ?_) (Fin.ext ?_)
  · show (b.val * 4096 + s.val) / 4096 = b.val; omega
  · show (b.val * 4096 + s.val) % 4096 = s.val; omega

end Cert.KernelIdeal.Whole
-- ==== Proof.RefStages.lean ====
module

public import proofs.«01_k».proof.Proof.Gen.ReferenceIdeal.Run
public import proofs.«01_k».proof.Proof.Target

/-! The reference's stages, and each stage at an index. -/

@[expose] public section

set_option maxRecDepth 16384

noncomputable section

namespace Cert.ReferenceIdeal.Stage

open Cert.ReferenceIdeal Cert.ReferenceIdeal.Gen Cert.ReferenceIdeal.Value
open Idealize.ShloMosaic Idealize.ShloMosaic.TcCoe
open Cert.Spec Cert.Scalars Cert.Target
open scoped BigOperators

/-- A projection of every token. -/
def proj (x : FVec Ideal S4x4096x1024 .f32) (w : FVec Ideal S1024x1024 .f32) : FVec Ideal S4x4096x1024 .f32 :=
  Host.dotGeneral dot_S4x4096x1024_S1024x1024_S4x4096x1024_2_0_01_1_n_n none x
    (transpose S1024x1024 [1, 0] w transposes_S1024x1024_S1024x1024_1_0)
/-- The memory's first layer. -/
def hid (k : FVec Ideal S4x4096x1024 .f32) (m1 : FVec Ideal S2048x1024 .f32) : FVec Ideal S4x4096x2048 .f32 :=
  Host.dotGeneral dot_S4x4096x1024_S1024x2048_S4x4096x2048_2_0_01_1_n_n none k
    (transpose S1024x2048 [1, 0] m1 transposes_S2048x1024_S1024x2048_1_0)
/-- The constant one in every place. -/
def ones : FVec Ideal S4x4096x2048 .f32 := broadcastInDim S4x4096x2048 ![] bcast_S_S4x4096x2048 (constant S_ .f32 0x3F800000#32)
/-- The logistic. -/
def sg (h : FVec Ideal S4x4096x2048 .f32) : FVec Ideal S4x4096x2048 .f32 :=
  Host.divf ones (addf ones (Host.exp (Host.negf h)))
/-- The activation. -/
def act (h : FVec Ideal S4x4096x2048 .f32) : FVec Ideal S4x4096x2048 .f32 := mulf h (sg h)
/-- The memory's second layer. -/
def lay2 (a : FVec Ideal S4x4096x2048 .f32) (m2 : FVec Ideal S1024x2048 .f32) : FVec Ideal S4x4096x1024 .f32 :=
  Host.dotGeneral dot_S4x4096x2048_S2048x1024_S4x4096x1024_2_0_01_1_n_n none a
    (transpose S2048x1024 [1, 0] m2 transposes_S1024x2048_S2048x1024_1_0)
/-- The loss's cotangent at the memory's output. -/
def rsd (p v : FVec Ideal S4x4096x1024 .f32) : FVec Ideal S4x4096x1024 .f32 :=
  mulf (broadcastInDim S4x4096x1024 ![0, 1] bcast_S4x4096_S4x4096x1024_0_1
      (Host.divf (broadcastInDim S4x4096 ![] bcast_S_S4x4096 (constant S_ .f32 0x3F800000#32))
        (broadcastInDim S4x4096 ![] bcast_S_S4x4096 (constant S_ .f32 0x44800000#32))))
    (mulf (broadcastInDim S4x4096x1024 ![] bcast_S_S4x4096x1024 (constant S_ .f32 0x40000000#32)) (subf p v))
/-- The cotangent at the activations. -/
def dact (r : FVec Ideal S4x4096x1024 .f32) (m2 : FVec Ideal S1024x2048 .f32) : FVec Ideal S4x4096x2048 .f32 :=
  Host.dotGeneral dot_S4x4096x1024_S2048x1024_S4x4096x2048_2_1_01_0_n_n none r
    (transpose S2048x1024 [1, 0] m2 transposes_S1024x2048_S2048x1024_1_0)
/-- The cotangent before the activation. -/
def dhid (h da : FVec Ideal S4x4096x2048 .f32) : FVec Ideal S4x4096x2048 .f32 :=
  addf (mulf da (sg h)) (mulf (mulf h da) (mulf (sg h) (subf ones (sg h))))
/-- The first matrix's gradient. -/
def gr1 (dh : FVec Ideal S4x4096x2048 .f32) (k : FVec Ideal S4x4096x1024 .f32) : FVec Ideal S2048x1024 .f32 :=
  transpose S2048x1024 [1, 0] (transpose S1024x2048 [1, 0]
    (Host.dotGeneral dot_S4x4096x2048_S4x4096x1024_S2048x1024_01_01_2_2_n_n none dh k) transposes_S2048x1024_S1024x2048_1_0)
    transposes_S1024x2048_S2048x1024_1_0
/-- The second matrix's gradient. -/
def gr2 (r : FVec Ideal S4x4096x1024 .f32) (a : FVec Ideal S4x4096x2048 .f32) : FVec Ideal S1024x2048 .f32 :=
  transpose S1024x2048 [1, 0] (transpose S2048x1024 [1, 0]
    (Host.dotGeneral dot_S4x4096x1024_S4x4096x2048_S1024x2048_01_01_2_2_n_n none r a) transposes_S1024x2048_S2048x1024_1_0)
    transposes_S2048x1024_S1024x2048_1_0
/-- A gate's argument at every token. -/
def garg (x : FVec Ideal S4x4096x1024 .f32) (w : FVec Ideal S1024x1024 .f32) (b : FVec Ideal S1024 .f32) : FVec Ideal S4x4096x1024 .f32 :=
  addf (proj x w) (broadcastInDim S4x4096x1024 ![0, 1, 2] bcast_S1x1x1024_S4x4096x1024_0_1_2
    (broadcastInDim S1x1x1024 ![2] bcast_S1024_S1x1x1024_2 b))
/-- The logistic of a gate's argument. -/
def glog (z : FVec Ideal S4x4096x1024 .f32) : FVec Ideal S4x4096x1024 .f32 :=
  Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf z)))
/-- A gate: the mean. -/
def gte (x : FVec Ideal S4x4096x1024 .f32) (w : FVec Ideal S1024x1024 .f32) (b : FVec Ideal S1024 .f32) : FVec Ideal S_ .f32 :=
  Host.divf (Host.reduceAdd (glog (garg x w b)) (constant S_ .f32 0x00000000#32) reducesTo_S4x4096x1024_S_d0_1_2 h_S_)
    (constant S_ .f32 0x4B800000#32)
/-- The first matrix updated. -/
def up1 (al th et : FVec Ideal S_ .f32) (m s g : FVec Ideal S2048x1024 .f32) : FVec Ideal S2048x1024 .f32 :=
  addf (mulf (broadcastInDim S2048x1024 ![] bcast_S_S2048x1024 (subf (constant S_ .f32 0x3F800000#32) al)) m)
    (subf (mulf (broadcastInDim S2048x1024 ![] bcast_S_S2048x1024 et) s)
      (mulf (broadcastInDim S2048x1024 ![] bcast_S_S2048x1024 th) g))
/-- The second matrix updated. -/
def up2 (al th et : FVec Ideal S_ .f32) (m s g : FVec Ideal S1024x2048 .f32) : FVec Ideal S1024x2048 .f32 :=
  addf (mulf (broadcastInDim S1024x2048 ![] bcast_S_S1024x2048 (subf (constant S_ .f32 0x3F800000#32) al)) m)
    (subf (mulf (broadcastInDim S1024x2048 ![] bcast_S_S1024x2048 et) s)
      (mulf (broadcastInDim S1024x2048 ![] bcast_S_S1024x2048 th) g))

section Terms

variable (x : FVec Ideal S4x4096x1024 .f32) (Wk Wv Wq Wout Wgd : FVec Ideal S1024x1024 .f32) (bgd : FVec Ideal S1024 .f32)
  (Wgl : FVec Ideal S1024x1024 .f32) (bgl : FVec Ideal S1024 .f32) (Wgm : FVec Ideal S1024x1024 .f32) (bgm : FVec Ideal S1024 .f32)
  (M1 : FVec Ideal S2048x1024 .f32) (M2 : FVec Ideal S1024x2048 .f32) (P1 : FVec Ideal S2048x1024 .f32) (P2 : FVec Ideal S1024x2048 .f32)

/-- The first layer on the keys. -/
def hk : FVec Ideal S4x4096x2048 .f32 := hid (proj x Wk) M1
/-- The residual's cotangent on all the tokens. -/
def rk : FVec Ideal S4x4096x1024 .f32 := rsd (lay2 (act (hk x Wk M1)) M2) (proj x Wv)
/-- The first matrix of the reference after the update. -/
def n1 : FVec Ideal S2048x1024 .f32 :=
  up1 (gte x Wgd bgd) (gte x Wgl bgl) (gte x Wgm bgm) M1 P1
    (gr1 (dhid (hk x Wk M1) (dact (rk x Wk Wv M1 M2) M2)) (proj x Wk))
/-- The second matrix of the reference after the update. -/
def n2 : FVec Ideal S1024x2048 .f32 :=
  up2 (gte x Wgd bgd) (gte x Wgl bgl) (gte x Wgm bgm) M2 P2 (gr2 (rk x Wk Wv M1 M2) (act (hk x Wk M1)))
/-- The reference's result. -/
def final : FVec Ideal S4x4096x1024 .f32 :=
  proj (lay2 (act (hid (proj x Wq) (n1 x Wk Wv Wgd bgd Wgl bgl Wgm bgm M1 M2 P1))) (n2 x Wk Wv Wgd bgd Wgl bgl Wgm bgm M1 M2 P2)) Wout

end Terms

/-- The reference's composed term is its stages one after another. -/
theorem staged (m : (ℓ : Loc nD τ sig) → Buf (Elt Ideal) ℓ) (c : Dev nD) :
    res_main_v95 (F := Ideal) m c = final (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := by
  unfold res_main_v95 final n1 n2 rk hk up1 up2 gte glog garg gr1 gr2 dhid dact rsd lay2 act sg ones hid proj
  rfl

/-- A projection at an index: the token's row through the matrix. -/
theorem proj_at (x : FVec Ideal S4x4096x1024 .f32) (w : FVec Ideal S1024x1024 .f32) (b : Fin 4) (s : Fin 4096) (j : Fin 1024) :
    proj x w (ix3 b s j) = lin (mat w) (fun i => x (ix3 b s i)) j := by
  unfold lin
  pointwise [proj]
/-- The first layer at an index: the token's row through the first matrix. -/
theorem hid_at (k : FVec Ideal S4x4096x1024 .f32) (m1 : FVec Ideal S2048x1024 .f32) (b : Fin 4) (s : Fin 4096) (p : Fin 2048) :
    hid k m1 (ix3 b s p) = lin (mat m1) (fun i => k (ix3 b s i)) p := by
  unfold lin
  pointwise [hid]
/-- One over one plus the exponential of the negative is the logistic. -/
theorem sg_at (h : FVec Ideal S4x4096x2048 .f32) (b : Fin 4) (s : Fin 4096) (p : Fin 2048) :
    sg h (ix3 b s p) = Ideal.logistic (h (ix3 b s p)) := by
  pointwise [sg, ones]
  exact div_logistic _
/-- The activation at an index is silu. -/
theorem act_at (h : FVec Ideal S4x4096x2048 .f32) (b : Fin 4) (s : Fin 4096) (p : Fin 2048) :
    act h (ix3 b s p) = silu (h (ix3 b s p)) := by
  unfold silu
  pointwise [act, sg_at]
/-- The second layer at an index: the token's activations through the second matrix. -/
theorem lay2_at (a : FVec Ideal S4x4096x2048 .f32) (m2 : FVec Ideal S1024x2048 .f32) (b : Fin 4) (s : Fin 4096) (j : Fin 1024) :
    lay2 a m2 (ix3 b s j) = lin (mat m2) (fun p => a (ix3 b s p)) j := by
  unfold lin
  pointwise [lay2]
/-- The loss's cotangent at an index: the residual times 2/1024. -/
theorem rsd_at (p v : FVec Ideal S4x4096x1024 .f32) (b : Fin 4) (s : Fin 4096) (j : Fin 1024) :
    rsd p v (ix3 b s j) = (p (ix3 b s j) - v (ix3 b s j)) * Ideal.ofBits .f32 0x3B000000#32 := by
  rw [Cert.Scalars.resid]
  pointwise [rsd]
/-- The activations' cotangent at an index: the residual's cotangent against a column of the second matrix. -/
theorem dact_at (r : FVec Ideal S4x4096x1024 .f32) (m2 : FVec Ideal S1024x2048 .f32) (b : Fin 4) (s : Fin 4096) (p : Fin 2048) :
    dact r m2 (ix3 b s p) = ∑ j, r (ix3 b s j) * m2 (ix2 j p) := by
  pointwise [dact]
/-- The cotangent before the activation at an index, in the form that differentiation gives. -/
theorem dhid_at (h da : FVec Ideal S4x4096x2048 .f32) (b : Fin 4) (s : Fin 4096) (p : Fin 2048) :
    dhid h da (ix3 b s p) = da (ix3 b s p) * Ideal.logistic (h (ix3 b s p))
      + h (ix3 b s p) * da (ix3 b s p) * (Ideal.logistic (h (ix3 b s p)) * (1 - Ideal.logistic (h (ix3 b s p)))) := by
  pointwise [dhid, ones, sg_at]
/-- The first matrix's gradient at an index: a sum over batches and positions. -/
theorem gr1_at (dh : FVec Ideal S4x4096x2048 .f32) (k : FVec Ideal S4x4096x1024 .f32) (p : Fin 2048) (j : Fin 1024) :
    gr1 dh k (ix2 p j) = ∑ b : Fin 4, ∑ s : Fin 4096, dh (ix3 b s p) * k (ix3 b s j) := by
  pointwise [gr1]
/-- The second matrix's gradient at an index: a sum over batches and positions. -/
theorem gr2_at (r : FVec Ideal S4x4096x1024 .f32) (a : FVec Ideal S4x4096x2048 .f32) (j : Fin 1024) (p : Fin 2048) :
    gr2 r a (ix2 j p) = ∑ b : Fin 4, ∑ s : Fin 4096, r (ix3 b s j) * a (ix3 b s p) := by
  pointwise [gr2]
/-- A gate's argument at an index: the projection plus the bias. -/
theorem garg_at (x : FVec Ideal S4x4096x1024 .f32) (w : FVec Ideal S1024x1024 .f32) (v : FVec Ideal S1024 .f32)
    (b : Fin 4) (s : Fin 4096) (j : Fin 1024) :
    garg x w v (ix3 b s j) = lin (mat w) (fun i => x (ix3 b s i)) j + v (ix1 j) := by
  pointwise [garg, proj_at]
/-- The logistic of a gate's argument at an index. -/
theorem glog_at (z : FVec Ideal S4x4096x1024 .f32) (b : Fin 4) (s : Fin 4096) (j : Fin 1024) :
    glog z (ix3 b s j) = Ideal.logistic (z (ix3 b s j)) := by
  pointwise [glog]
  exact div_logistic _

/-- The tokens by batch and position are all the tokens. -/
theorem toks (T : Fin 16384 → EReal) : ∑ b : Fin 4, ∑ s : Fin 4096, T ⟨b.val * 4096 + s.val, by omega⟩ = ∑ n, T n :=
  (Fin.sum_univ_tiles 4 4096 rfl T).symm
/-- Token `b * 4096 + s` is the one of batch `b` at position `s`. -/
theorem tok_at (x : FVec Ideal S4x4096x1024 .f32) (b : Fin 4) (s : Fin 4096) :
    tok x ⟨b.val * 4096 + s.val, by omega⟩ = fun i => x (ix3 b s i) := by
  funext i
  unfold tok
  refine congrArg₂ (fun (u : Fin 4) (v : Fin 4096) => x (ix3 u v i)) (Fin.ext ?_) (Fin.ext ?_)
  · show (b.val * 4096 + s.val) / 4096 = b.val; omega
  · show (b.val * 4096 + s.val) % 4096 = s.val; omega

/-- A gate is the mean, over tokens and lanes, of the logistic of its argument. -/
theorem gte_at (x : FVec Ideal S4x4096x1024 .f32) (w : FVec Ideal S1024x1024 .f32) (v : FVec Ideal S1024 .f32) (y : S_.Idx) :
    gte x w v y = gate (mat w) (vct v) (tok x) := by
  unfold gate
  rw [← toks]
  pointwise [gte]
  refine congrArg (fun q => Ideal.div q _) ?_
  refine Finset.sum_congr rfl fun b _ => Finset.sum_congr rfl fun s _ => Finset.sum_congr rfl fun j _ => ?_
  rw [glog_at, garg_at, tok_at]

/-- The first matrix updated, at an index. -/
theorem up1_at (al th et : FVec Ideal S_ .f32) (m s g : FVec Ideal S2048x1024 .f32) (p : Fin 2048) (j : Fin 1024) :
    up1 al th et m s g (ix2 p j) = upd (al ix0) (th ix0) (et ix0) (m (ix2 p j)) (s (ix2 p j)) (g (ix2 p j)) := by
  unfold upd
  rw [step_assoc]
  pointwise [up1]
/-- The second matrix updated, at an index. -/
theorem up2_at (al th et : FVec Ideal S_ .f32) (m s g : FVec Ideal S1024x2048 .f32) (j : Fin 1024) (p : Fin 2048) :
    up2 al th et m s g (ix2 j p) = upd (al ix0) (th ix0) (et ix0) (m (ix2 j p)) (s (ix2 j p)) (g (ix2 j p)) := by
  unfold upd
  rw [step_assoc]
  pointwise [up2]

end Cert.ReferenceIdeal.Stage
-- ==== Proof.RefValue.lean ====
module

public import proofs.«01_k».proof.Proof.RefStages
public import proofs.«01_k».proof.Pre_finite_memory

/-! The reference computes the closed form when the arrays its gradient reads have no infinite element. -/

@[expose] public section

set_option maxRecDepth 16384

noncomputable section

namespace Cert.ReferenceIdeal.Stage

open Cert.ReferenceIdeal Cert.ReferenceIdeal.Gen Cert.ReferenceIdeal.Value
open Idealize.ShloMosaic Idealize.ShloMosaic.TcCoe
open Cert.Spec Cert.Scalars Cert.Target
open scoped BigOperators

/-- A projection of finite numbers is finite. -/
theorem real_lin {a b : ℕ} {w : Fin b → Fin a → EReal} {x : Fin a → EReal} (hw : ∀ i j, IsReal (w i j)) (hx : ∀ i, IsReal (x i))
    (j : Fin b) : IsReal (lin w x j) := IsReal.sum fun i => (hx i).mul (hw j i)

/-- The cotangent at the activations is finite when everything it reads is. -/
theorem real_cot {d e : ℕ} {wk wv : Fin d → Fin d → EReal} {m1 : Fin e → Fin d → EReal} {m2 : Fin d → Fin e → EReal}
    {x : Fin d → EReal} (hx : ∀ i, IsReal (x i)) (hk : ∀ i j, IsReal (wk i j)) (hv : ∀ i j, IsReal (wv i j))
    (h1 : ∀ i j, IsReal (m1 i j)) (h2 : ∀ i j, IsReal (m2 i j)) (p : Fin e) : IsReal (cot wk wv m1 m2 x p) := by
  refine IsReal.sum fun j => IsReal.mul (IsReal.mul (IsReal.sub ?_ (real_lin hv hx j)) ?_) (h2 j p)
  · refine real_lin h2 (fun q => ?_) j
    have hh := real_lin h1 (real_lin hk hx) q
    exact hh.mul hh.logistic
  · exact ⟨_, scale_bits⟩

section Terms

variable (x : FVec Ideal S4x4096x1024 .f32) (Wk Wv Wq Wout Wgd : FVec Ideal S1024x1024 .f32) (bgd : FVec Ideal S1024 .f32)
  (Wgl : FVec Ideal S1024x1024 .f32) (bgl : FVec Ideal S1024 .f32) (Wgm : FVec Ideal S1024x1024 .f32) (bgm : FVec Ideal S1024 .f32)
  (M1 : FVec Ideal S2048x1024 .f32) (M2 : FVec Ideal S1024x2048 .f32) (P1 : FVec Ideal S2048x1024 .f32) (P2 : FVec Ideal S1024x2048 .f32)

/-- The first layer on a token's key. -/
theorem hk_at (b : Fin 4) (s : Fin 4096) (p : Fin 2048) :
    hk x Wk M1 (ix3 b s p) = lin (mat M1) (lin (mat Wk) (fun i => x (ix3 b s i))) p := by
  unfold hk
  rw [hid_at]
  simp only [proj_at]

/-- The residual's cotangent at a token. -/
theorem rk_at (b : Fin 4) (s : Fin 4096) (j : Fin 1024) :
    rk x Wk Wv M1 M2 (ix3 b s j) = res (mat Wk) (mat Wv) (mat M1) (mat M2) (fun i => x (ix3 b s i)) j := by
  unfold rk res mem
  rw [rsd_at, lay2_at, proj_at]
  simp only [act_at, hk_at]

/-- The cotangent before the activation at a token, in the kernel's form; here finiteness is used. -/
theorem dh_at (hx : ∀ b s i, IsReal (x (ix3 b s i))) (hk' : ∀ i j, IsReal (Wk (ix2 i j))) (hv : ∀ i j, IsReal (Wv (ix2 i j)))
    (h1 : ∀ i j, IsReal (M1 (ix2 i j))) (h2 : ∀ i j, IsReal (M2 (ix2 i j))) (b : Fin 4) (s : Fin 4096) (p : Fin 2048) :
    dhid (hk x Wk M1) (dact (rk x Wk Wv M1 M2) M2) (ix3 b s p)
      = cotH (mat Wk) (mat Wv) (mat M1) (mat M2) (fun i => x (ix3 b s i)) p := by
  have e : dact (rk x Wk Wv M1 M2) M2 (ix3 b s p) = cot (mat Wk) (mat Wv) (mat M1) (mat M2) (fun i => x (ix3 b s i)) p := by
    rw [dact_at]
    simp only [rk_at]
    rfl
  rw [dhid_at, e, hk_at]
  exact (dsilu (real_cot (hx b s) hk' hv h1 h2 p) _).symm

/-- The first matrix's gradient. -/
theorem g1_at (hx : ∀ b s i, IsReal (x (ix3 b s i))) (hk' : ∀ i j, IsReal (Wk (ix2 i j))) (hv : ∀ i j, IsReal (Wv (ix2 i j)))
    (h1 : ∀ i j, IsReal (M1 (ix2 i j))) (h2 : ∀ i j, IsReal (M2 (ix2 i j))) (p : Fin 2048) (j : Fin 1024) :
    gr1 (dhid (hk x Wk M1) (dact (rk x Wk Wv M1 M2) M2)) (proj x Wk) (ix2 p j)
      = grad1 (mat Wk) (mat Wv) (mat M1) (mat M2) (tok x) p j := by
  unfold grad1
  rw [gr1_at, ← toks]
  refine Finset.sum_congr rfl fun b _ => Finset.sum_congr rfl fun s _ => ?_
  rw [dh_at x Wk Wv M1 M2 hx hk' hv h1 h2, proj_at, tok_at]

/-- The second matrix's gradient. -/
theorem g2_at (j : Fin 1024) (p : Fin 2048) :
    gr2 (rk x Wk Wv M1 M2) (act (hk x Wk M1)) (ix2 j p) = grad2 (mat Wk) (mat Wv) (mat M1) (mat M2) (tok x) j p := by
  unfold grad2
  rw [gr2_at, ← toks]
  refine Finset.sum_congr rfl fun b _ => Finset.sum_congr rfl fun s _ => ?_
  rw [rk_at, act_at, hk_at, tok_at]

/-- The reference's result at an index is the closed form. -/
theorem final_at (hx : ∀ b s i, IsReal (x (ix3 b s i))) (hk' : ∀ i j, IsReal (Wk (ix2 i j))) (hv : ∀ i j, IsReal (Wv (ix2 i j)))
    (h1 : ∀ i j, IsReal (M1 (ix2 i j))) (h2 : ∀ i j, IsReal (M2 (ix2 i j))) (b : Fin 4) (s : Fin 4096) (o : Fin 1024) :
    final x Wk Wv Wq Wout Wgd bgd Wgl bgl Wgm bgm M1 M2 P1 P2 (ix3 b s o)
      = Target.out x Wk Wv Wq Wout Wgd bgd Wgl bgl Wgm bgm M1 M2 P1 P2 b s o := by
  have e1 : mat (n1 x Wk Wv Wgd bgd Wgl bgl Wgm bgm M1 M2 P1) = new1 x Wk Wv Wgd bgd Wgl bgl Wgm bgm M1 M2 P1 := by
    funext p j
    show n1 x Wk Wv Wgd bgd Wgl bgl Wgm bgm M1 M2 P1 (ix2 p j) = _
    unfold n1 new1
    rw [up1_at, gte_at, gte_at, gte_at, g1_at x Wk Wv M1 M2 hx hk' hv h1 h2]
  have e2 : mat (n2 x Wk Wv Wgd bgd Wgl bgl Wgm bgm M1 M2 P2) = new2 x Wk Wv Wgd bgd Wgl bgl Wgm bgm M1 M2 P2 := by
    funext j p
    show n2 x Wk Wv Wgd bgd Wgl bgl Wgm bgm M1 M2 P2 (ix2 j p) = _
    unfold n2 new2
    rw [up2_at, gte_at, gte_at, gte_at, g2_at]
  unfold final Target.out retr mem
  rw [proj_at]
  simp only [lay2_at, act_at, hid_at, proj_at]
  rw [e1, e2]

end Terms

/-- An element whose absolute value compares below infinity is a real number. -/
theorem real_of_lt {s : Shape} (a : FVec Ideal s .f32) (h : S_.BroadcastsInDim s (![] : Fin 0 → Fin s.rank)) (i : s.Idx)
    (hp : cmpf .olt (Host.absf a) (broadcastInDim s ![] h (constant S_ .f32 0x7F800000#32)) i = 1) : IsReal (a i) := by
  have hp' : Ideal.cmp .olt (max (a i) (-a i)) (Ideal.ofBits .f32 0x7F800000#32) = 1 := hp
  have ht : Ideal.ofBits .f32 0x7F800000#32 = ⊤ := by simp [Ideal.ofBits, Ideal.ieee]
  rw [ht] at hp'
  refine IsReal.of_ne (fun e => ?_) (fun e => ?_) <;> rw [e] at hp' <;> simp [Ideal.cmp] at hp'

end Cert.ReferenceIdeal.Stage
-- ==== Proof.Agree.lean ====
module

public import proofs.«01_k».proof.Defs
public import proofs.«01_k».proof.Proof.KernelValue
public import proofs.«01_k».proof.Proof.RefValue

/-! The two results are the same array, from the same arguments, under the precondition. -/

@[expose] public section

set_option maxRecDepth 16384

noncomputable section

namespace Cert.Agree

open Idealize.ShloMosaic Idealize.ShloMosaic.TcCoe
open Cert.Scalars Cert.Target Cert.KernelIdeal.Whole

/-- The shape relations that the precondition's broadcasts state. -/
theorem pre_facts : Cert.Pre_finite_memory.Facts where
  bcast_S_S4x4096x1024 := by decide
  bcast_S_S1024x1024 := by decide
  bcast_S_S2048x1024 := by decide
  bcast_S_S1024x2048 := by decide

/-- Under the precondition the five arrays hold real numbers. -/
theorem reals (m : (ℓ : Loc Cert.KernelIdeal.nD Cert.KernelIdeal.τ Cert.KernelIdeal.sig) → Buf (Elt Ideal) ℓ)
    (h : Cert.Pre_KernelIdeal_finite_memory (hPre_finite_memory := pre_facts) m) (c : Dev Cert.KernelIdeal.nD) :
    (∀ b s i, IsReal ((show FVec Ideal SX .f32 from arg m c Cert.KernelIdeal.main_arg0) (ix3 b s i)))
    ∧ (∀ i j, IsReal ((show FVec Ideal SW .f32 from arg m c Cert.KernelIdeal.main_arg1) (ix2 i j)))
    ∧ (∀ i j, IsReal ((show FVec Ideal SW .f32 from arg m c Cert.KernelIdeal.main_arg2) (ix2 i j)))
    ∧ (∀ i j, IsReal ((show FVec Ideal Target.S1 .f32 from arg m c Cert.KernelIdeal.main_arg11) (ix2 i j)))
    ∧ (∀ i j, IsReal ((show FVec Ideal Target.S2 .f32 from arg m c Cert.KernelIdeal.main_arg12) (ix2 i j))) := by
  obtain ⟨h0, h1, h2, h3, h4⟩ := h c
  exact ⟨fun b s i => Cert.ReferenceIdeal.Stage.real_of_lt _ _ _ (congrFun h0 (ix3 b s i)),
    fun i j => Cert.ReferenceIdeal.Stage.real_of_lt _ _ _ (congrFun h1 (ix2 i j)),
    fun i j => Cert.ReferenceIdeal.Stage.real_of_lt _ _ _ (congrFun h2 (ix2 i j)),
    fun i j => Cert.ReferenceIdeal.Stage.real_of_lt _ _ _ (congrFun h3 (ix2 i j)),
    fun i j => Cert.ReferenceIdeal.Stage.real_of_lt _ _ _ (congrFun h4 (ix2 i j))⟩

/-- The reference's stages, over the kernel's arguments, are the kernel's result. -/
theorem final_eq (m : (ℓ : Loc Cert.KernelIdeal.nD Cert.KernelIdeal.τ Cert.KernelIdeal.sig) → Buf (Elt Ideal) ℓ)
    (h : Cert.Pre_KernelIdeal_finite_memory (hPre_finite_memory := pre_facts) m) (c : Dev Cert.KernelIdeal.nD) :
    Cert.ReferenceIdeal.Stage.final (arg m c Cert.KernelIdeal.main_arg0) (arg m c Cert.KernelIdeal.main_arg1)
      (arg m c Cert.KernelIdeal.main_arg2) (arg m c Cert.KernelIdeal.main_arg3) (arg m c Cert.KernelIdeal.main_arg4)
      (arg m c Cert.KernelIdeal.main_arg5) (arg m c Cert.KernelIdeal.main_arg6) (arg m c Cert.KernelIdeal.main_arg7)
      (arg m c Cert.KernelIdeal.main_arg8) (arg m c Cert.KernelIdeal.main_arg9) (arg m c Cert.KernelIdeal.main_arg10)
      (arg m c Cert.KernelIdeal.main_arg11) (arg m c Cert.KernelIdeal.main_arg12) (arg m c Cert.KernelIdeal.main_arg13)
      (arg m c Cert.KernelIdeal.main_arg14)
      = (show FVec Ideal SX .f32 from X6 m c Cert.KernelIdeal.main_v21) := by
  obtain ⟨hx, hk, hv, h1, h2⟩ := reals m h c
  funext y
  idx_vars y
  exact (Cert.ReferenceIdeal.Stage.final_at _ _ _ _ _ _ _ _ _ _ _ _ _ _ _ hx hk hv h1 h2 _ _ _).trans
    (result_eq m c _ _ _).symm

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Transfer
public import proofs.«01_k».proof.Proof.Agree
public import Idealize.ShloMosaic.Adequacy
public import Idealize.ShloMosaic.Lib.Quiescent
public import Idealize.ShloMosaic.Lib.StableHlo.RunHlo
public import Idealize.ShloMosaic.Init

@[expose] public section

set_option maxRecDepth 65536
set_option maxHeartbeats 4000000

noncomputable section

namespace Cert.Proof

open Idealize.ShloMosaic Idealize.ShloMosaic.TcCoe Idealize.SL.Sem Cert.Kernel

/-- The kernel's run at the machine's floats: it ends, its arguments unchanged and every counter at zero. -/
theorem frame_kernel : Cert.quiescent_Kernel (hKernel := Cert.Kernel.Gen.facts) := by
  unfold Cert.quiescent_Kernel
  rw [Cert.Transfer.same_defs, Cert.Transfer.same_main]
  exact fun m g _ => θ_run_mono (Cert.KernelIdeal.Whole.run_args (F := Bits) m g) fun r h => ⟨fun c => (h.1 c).2, h.2⟩

/-- Its idealization's run likewise. -/
theorem frame_ideal : Cert.quiescent_KernelIdeal (hKernelIdeal := Cert.KernelIdeal.Gen.facts) := fun m g _ =>
  θ_run_mono (Cert.KernelIdeal.Whole.run_args (F := Ideal) m g) fun r h => ⟨fun c => (h.1 c).2, h.2⟩

/-- The reference's run likewise. -/
theorem frame_reference : Cert.quiescent_ReferenceIdeal (hReferenceIdeal := Cert.ReferenceIdeal.Gen.facts) := fun m g _ =>
  θ_run_mono (Cert.ReferenceIdeal.Value.run (F := Ideal) m g) fun r h => ⟨fun c => (h c).2, sem_eq_zero_of_no_sems (by decide) _⟩

/-- From the same arguments, under the precondition, the idealized kernel and the idealized reference end with the same result. -/
theorem algebraic : Cert.algebraic_KernelIdeal_ReferenceIdeal_pre_finite_memory (hKernelIdeal := Cert.KernelIdeal.Gen.facts)
    (hReferenceIdeal := Cert.ReferenceIdeal.Gen.facts) (hPre_finite_memory := Cert.Agree.pre_facts) := by
  intro m g m' g' hpre hargs
  refine ⟨fun c => Cert.KernelIdeal.Whole.X6 m c Cert.KernelIdeal.main_v21,
    θ_run_mono (Cert.KernelIdeal.Whole.run_args (F := Ideal) m g) fun r h => h.1,
    θ_run_mono (Cert.ReferenceIdeal.Value.run (F := Ideal) m' g') fun r h c => ⟨(h c).1.trans ?_, (h c).2⟩⟩
  obtain ⟨e0, e1, e2, e3, e4, e5, e6, e7, e8, e9, e10, e11, e12, e13, e14⟩ := hargs c
  rw [Cert.ReferenceIdeal.Stage.staged, e0, e1, e2, e3, e4, e5, e6, e7, e8, e9, e10, e11, e12, e13, e14]
  exact Cert.Agree.final_eq m hpre c

/-- Everything that the statement claims. -/
theorem claim : Cert.Claim := ⟨Cert.Kernel.Gen.facts, Cert.KernelIdeal.Gen.facts, Cert.ReferenceIdeal.Gen.facts, Cert.Agree.pre_facts,
  frame_kernel, frame_ideal, fun m g _ => frame_ideal m g trivial, frame_reference, fun m g _ => frame_reference m g trivial,
  trivial, algebraic⟩

end Cert.Proof

end
